-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x400x12 : Shape := ⟨4, ![8, 32, 400, 12]⟩
abbrev S400 : Shape := ⟨1, ![400]⟩
abbrev S400x32 : Shape := ⟨2, ![400, 32]⟩
abbrev S32x32 : Shape := ⟨2, ![32, 32]⟩
abbrev S32 : Shape := ⟨1, ![32]⟩
abbrev S32x96 : Shape := ⟨2, ![32, 96]⟩
abbrev S_ : Shape := ⟨0, ![]⟩
abbrev S400x1 : Shape := ⟨2, ![400, 1]⟩
abbrev S1x32 : Shape := ⟨2, ![1, 32]⟩
abbrev S400x1x32 : Shape := ⟨3, ![400, 1, 32]⟩
abbrev S1x400x32 : Shape := ⟨3, ![1, 400, 32]⟩
abbrev S400x400x32 : Shape := ⟨3, ![400, 400, 32]⟩
abbrev S400x400 : Shape := ⟨2, ![400, 400]⟩
abbrev S8x12x32x400 : Shape := ⟨4, ![8, 12, 32, 400]⟩
abbrev S8x12x400x400 : Shape := ⟨4, ![8, 12, 400, 400]⟩
abbrev S1x6x32x400 : Shape := ⟨4, ![1, 6, 32, 400]⟩
abbrev S1x6x400x400 : Shape := ⟨4, ![1, 6, 400, 400]⟩
abbrev S1x1x32x400 : Shape := ⟨4, ![1, 1, 32, 400]⟩
abbrev S32x400 : Shape := ⟨2, ![32, 400]⟩
abbrev S96x400 : Shape := ⟨2, ![96, 400]⟩
abbrev S1x1x400x400 : Shape := ⟨4, ![1, 1, 400, 400]⟩

abbrev nBuf : Space → Nat
  | .hbm => 97
  | .vmem => 14
  | .smem => 0
  | _ => 0

abbrev bufTy : (tb : Table) → Fin (tcTables nBuf tb) → BufTy
  | .hbm, ⟨0, _⟩ => ⟨S8x32x400x12, .f32⟩
  | .hbm, ⟨1, _⟩ => ⟨S400, .i32⟩
  | .hbm, ⟨2, _⟩ => ⟨S400x32, .f32⟩
  | .hbm, ⟨3, _⟩ => ⟨S400x32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x96, .f32⟩
  | .hbm, ⟨9, _⟩ => ⟨S32, .f32⟩
  | .hbm, ⟨10, _⟩ => ⟨S32x96, .f32⟩
  | .hbm, ⟨11, _⟩ => ⟨S32, .f32⟩
  | .hbm, ⟨12, _⟩ => ⟨S_, .i32⟩
  | .hbm, ⟨13, _⟩ => ⟨S400, .i32⟩
  | .hbm, ⟨14, _⟩ => ⟨S400, .i1⟩
  | .hbm, ⟨15, _⟩ => ⟨S_, .i32⟩
  | .hbm, ⟨16, _⟩ => ⟨S400, .i32⟩
  | .hbm, ⟨17, _⟩ => ⟨S400, .i32⟩
  | .hbm, ⟨18, _⟩ => ⟨S400, .i32⟩
  | .hbm, ⟨19, _⟩ => ⟨S400x1, .i32⟩
  | .hbm, ⟨20, _⟩ => ⟨S400x32, .f32⟩
  | .hbm, ⟨21, _⟩ => ⟨S32x32, .f32⟩
  | .hbm, ⟨22, _⟩ => ⟨S400x32, .f32⟩
  | .hbm, ⟨23, _⟩ => ⟨S1x32, .f32⟩
  | .hbm, ⟨24, _⟩ => ⟨S400x32, .f32⟩
  | .hbm, ⟨25, _⟩ => ⟨S400x32, .f32⟩
  | .hbm, ⟨26, _⟩ => ⟨S_, .f32⟩
  | .hbm, ⟨27, _⟩ => ⟨S400x32, .f32⟩
  | .hbm, ⟨28, _⟩ => ⟨S400x32, .f32⟩
  | .hbm, ⟨29, _⟩ => ⟨S400x32, .f32⟩
  | .hbm, ⟨30, _⟩ => ⟨S_, .i32⟩
  | .hbm, ⟨31, _⟩ => ⟨S400, .i32⟩
  | .hbm, ⟨32, _⟩ => ⟨S400, .i1⟩
  | .hbm, ⟨33, _⟩ => ⟨S_, .i32⟩
  | .hbm, ⟨34, _⟩ => ⟨S400, .i32⟩
  | .hbm, ⟨35, _⟩ => ⟨S400, .i32⟩
  | .hbm, ⟨36, _⟩ => ⟨S400, .i32⟩
  | .hbm, ⟨37, _⟩ => ⟨S400x1, .i32⟩
  | .hbm, ⟨38, _⟩ => ⟨S400x32, .f32⟩
  | .hbm, ⟨39, _⟩ => ⟨S32x32, .f32⟩
  | .hbm, ⟨40, _⟩ => ⟨S400x32, .f32⟩
  | .hbm, ⟨41, _⟩ => ⟨S1x32, .f32⟩
  | .hbm, ⟨42, _⟩ => ⟨S400x32, .f32⟩
  | .hbm, ⟨43, _⟩ => ⟨S400x32, .f32⟩
  | .hbm, ⟨44, _⟩ => ⟨S_, .f32⟩
  | .hbm, ⟨45, _⟩ => ⟨S400x32, .f32⟩
  | .hbm, ⟨46, _⟩ => ⟨S400x32, .f32⟩
  | .hbm, ⟨47, _⟩ => ⟨S400x32, .f32⟩
  | .hbm, ⟨48, _⟩ => ⟨S400x1x32, .f32⟩
  | .hbm, ⟨49, _⟩ => ⟨S1x400x32, .f32⟩
  | .hbm, ⟨50, _⟩ => ⟨S400x400x32, .f32⟩
  | .hbm, ⟨51, _⟩ => ⟨S400x400x32, .f32⟩
  | .hbm, ⟨52, _⟩ => ⟨S400x400x32, .f32⟩
  | .hbm, ⟨53, _⟩ => ⟨S400x400x32, .f32⟩
  | .hbm, ⟨54, _⟩ => ⟨S_, .f32⟩
  | .hbm, ⟨55, _⟩ => ⟨S400x400, .f32⟩
  | .hbm, ⟨56, _⟩ => ⟨S400x400, .f32⟩
  | .hbm, ⟨57, _⟩ => ⟨S_, .f32⟩
  | .hbm, ⟨58, _⟩ => ⟨S400x400, .f32⟩
  | .hbm, ⟨59, _⟩ => ⟨S400x400, .f32⟩
  | .hbm, ⟨60, _⟩ => ⟨S400x400, .f32⟩
  | .hbm, ⟨61, _⟩ => ⟨S_, .f32⟩
  | .hbm, ⟨62, _⟩ => ⟨S400, .f32⟩
  | .hbm, ⟨63, _⟩ => ⟨S_, .f32⟩
  | .hbm, ⟨64, _⟩ => ⟨S400, .f32⟩
  | .hbm, ⟨65, _⟩ => ⟨S400, .i1⟩
  | .hbm, ⟨66, _⟩ => ⟨S_, .f32⟩
  | .hbm, ⟨67, _⟩ => ⟨S400, .f32⟩
  | .hbm, ⟨68, _⟩ => ⟨S400, .f32⟩
  | .hbm, ⟨69, _⟩ => ⟨S_, .f32⟩
  | .hbm, ⟨70, _⟩ => ⟨S_, .f32⟩
  | .hbm, ⟨71, _⟩ => ⟨S400, .f32⟩
  | .hbm, ⟨72, _⟩ => ⟨S400, .f32⟩
  | .hbm, ⟨73, _⟩ => ⟨S400x1, .f32⟩
  | .hbm, ⟨74, _⟩ => ⟨S400x400, .f32⟩
  | .hbm, ⟨75, _⟩ => ⟨S400x400, .f32⟩
  | .hbm, ⟨76, _⟩ => ⟨S400x400, .f32⟩
  | .hbm, ⟨77, _⟩ => ⟨S_, .f32⟩
  | .hbm, ⟨78, _⟩ => ⟨S400, .f32⟩
  | .hbm, ⟨79, _⟩ => ⟨S_, .f32⟩
  | .hbm, ⟨80, _⟩ => ⟨S400, .f32⟩
  | .hbm, ⟨81, _⟩ => ⟨S400, .i1⟩
  | .hbm, ⟨82, _⟩ => ⟨S_, .f32⟩
  | .hbm, ⟨83, _⟩ => ⟨S400, .f32⟩
  | .hbm, ⟨84, _⟩ => ⟨S400, .f32⟩
  | .hbm, ⟨85, _⟩ => ⟨S_, .f32⟩
  | .hbm, ⟨86, _⟩ => ⟨S_, .f32⟩
  | .hbm, ⟨87, _⟩ => ⟨S400, .f32⟩
  | .hbm, ⟨88, _⟩ => ⟨S400, .f32⟩
  | .hbm, ⟨89, _⟩ => ⟨S400x1, .f32⟩
  | .hbm, ⟨90, _⟩ => ⟨S400x400, .f32⟩
  | .hbm, ⟨91, _⟩ => ⟨S400x400, .f32⟩
  | .hbm, ⟨92, _⟩ => ⟨S1x32, .f32⟩
  | .hbm, ⟨93, _⟩ => ⟨S1x32, .f32⟩
  | .hbm, ⟨94, _⟩ => ⟨S8x12x32x400, .f32⟩
  | .hbm, ⟨95, _⟩ => ⟨S8x12x400x400, .f32⟩
  | .hbm, ⟨96, _⟩ => ⟨S8x12x400x400, .f32⟩
  | .local _ .vmem, ⟨0, _⟩ => ⟨S1x6x32x400, .f32⟩
  | .local _ .vmem, ⟨1, _⟩ => ⟨S1x6x32x400, .f32⟩
  | .local _ .vmem, ⟨2, _⟩ => ⟨S400x400, .f32⟩
  | .local _ .vmem, ⟨3, _⟩ => ⟨S400x400, .f32⟩
  | .local _ .vmem, ⟨4, _⟩ => ⟨S400x32, .f32⟩
  | .local _ .vmem, ⟨5, _⟩ => ⟨S400x32, .f32⟩
  | .local _ .vmem, ⟨6, _⟩ => ⟨S32x96, .f32⟩
  | .local _ .vmem, ⟨7, _⟩ => ⟨S1x32, .f32⟩
  | .local _ .vmem, ⟨8, _⟩ => ⟨S32x96, .f32⟩
  | .local _ .vmem, ⟨9, _⟩ => ⟨S1x32, .f32⟩
  | .local _ .vmem, ⟨10, _⟩ => ⟨S1x6x400x400, .f32⟩
  | .local _ .vmem, ⟨11, _⟩ => ⟨S1x6x400x400, .f32⟩
  | .local _ .vmem, ⟨12, _⟩ => ⟨S1x6x400x400, .f32⟩
  | .local _ .vmem, ⟨13, _⟩ => ⟨S1x6x400x400, .f32⟩
  | _, _ => ⟨S8x32x400x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_call0_v0 : Ref sig .tc := ⟨.hbm, 70, rfl⟩
abbrev main_call0_v1 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63_0 : Ref sig .tc := ⟨.hbm, 95, rfl⟩
abbrev main_v63_1 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x6x32x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S400x400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S400x400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S400x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S400x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x6x400x400 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x6x400x400 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x32x400x12 : Shape := ⟨4, ![8, 32, 400, 12]⟩
abbrev S400 : Shape := ⟨1, ![400]⟩
abbrev S400x32 : Shape := ⟨2, ![400, 32]⟩
abbrev S32x32 : Shape := ⟨2, ![32, 32]⟩
abbrev S32 : Shape := ⟨1, ![32]⟩
abbrev S32x96 : Shape := ⟨2, ![32, 96]⟩
abbrev S_ : Shape := ⟨0, ![]⟩
abbrev S400x1 : Shape := ⟨2, ![400, 1]⟩
abbrev S1x32 : Shape := ⟨2, ![1, 32]⟩
abbrev S400x1x32 : Shape := ⟨3, ![400, 1, 32]⟩
abbrev S1x400x32 : Shape := ⟨3, ![1, 400, 32]⟩
abbrev S400x400x32 : Shape := ⟨3, ![400, 400, 32]⟩
abbrev S400x400 : Shape := ⟨2, ![400, 400]⟩
abbrev S400x8x32x12 : Shape := ⟨4, ![400, 8, 32, 12]⟩
abbrev S8x96x400x12 : Shape := ⟨4, ![8, 96, 400, 12]⟩
abbrev S32x8x400x12 : Shape := ⟨4, ![32, 8, 400, 12]⟩
abbrev S1x32x1x1 : Shape := ⟨4, ![1, 32, 1, 1]⟩
abbrev S8x12x400x32 : Shape := ⟨4, ![8, 12, 400, 32]⟩
abbrev S1x1x400x32 : Shape := ⟨4, ![1, 1, 400, 32]⟩
abbrev S8x12x32x400 : Shape := ⟨4, ![8, 12, 32, 400]⟩
abbrev S8x12x400x400 : Shape := ⟨4, ![8, 12, 400, 400]⟩
abbrev S8x12x400x20 : Shape := ⟨4, ![8, 12, 400, 20]⟩
abbrev S8 : Shape := ⟨1, ![8]⟩
abbrev S8x1x1x1 : Shape := ⟨4, ![8, 1, 1, 1]⟩
abbrev S12 : Shape := ⟨1, ![12]⟩
abbrev S1x12x1x1 : Shape := ⟨4, ![1, 12, 1, 1]⟩
abbrev S1x1x400x1 : Shape := ⟨4, ![1, 1, 400, 1]⟩
abbrev S8x12x400x20x1 : Shape := ⟨5, ![8, 12, 400, 20, 1]⟩
abbrev S8x12x400x20x4 : Shape := ⟨5, ![8, 12, 400, 20, 4]⟩
abbrev S1x1x400x400 : Shape := ⟨4, ![1, 1, 400, 400]⟩
abbrev S8x12x400 : Shape := ⟨3, ![8, 12, 400]⟩
abbrev S8x12x400x1 : Shape := ⟨4, ![8, 12, 400, 1]⟩

abbrev nBuf : Space → Nat
  | .hbm => 221
  | .vmem => 0
  | .smem => 0
  | _ => 0

abbrev hbmTy0_0 (i : Nat) : BufTy := match i % 128 with
  | 0 => ⟨S8x32x400x12, .f32⟩
  | 1 => ⟨S400, .i32⟩
  | 2 => ⟨S400x32, .f32⟩
  | 3 => ⟨S400x32, .f32⟩
  | 4 => ⟨S32x32, .f32⟩
  | 5 => ⟨S32, .f32⟩
  | 6 => ⟨S32x32, .f32⟩
  | 7 => ⟨S32, .f32⟩
  | 8 => ⟨S32x96, .f32⟩
  | 9 => ⟨S32, .f32⟩
  | 10 => ⟨S32x96, .f32⟩
  | 11 => ⟨S32, .f32⟩
  | 12 => ⟨S_, .i32⟩
  | 13 => ⟨S400, .i32⟩
  | 14 => ⟨S400, .i1⟩
  | 15 => ⟨S_, .i32⟩
  | 16 => ⟨S400, .i32⟩
  | 17 => ⟨S400, .i32⟩
  | 18 => ⟨S400, .i32⟩
  | 19 => ⟨S400x1, .i32⟩
  | 20 => ⟨S400x32, .f32⟩
  | 21 => ⟨S32x32, .f32⟩
  | 22 => ⟨S400x32, .f32⟩
  | 23 => ⟨S1x32, .f32⟩
  | 24 => ⟨S400x32, .f32⟩
  | 25 => ⟨S400x32, .f32⟩
  | 26 => ⟨S_, .f32⟩
  | 27 => ⟨S400x32, .f32⟩
  | 28 => ⟨S400x32, .f32⟩
  | 29 => ⟨S400x32, .f32⟩
  | 30 => ⟨S_, .i32⟩
  | 31 => ⟨S400, .i32⟩
  | 32 => ⟨S400, .i1⟩
  | 33 => ⟨S_, .i32⟩
  | 34 => ⟨S400, .i32⟩
  | 35 => ⟨S400, .i32⟩
  | 36 => ⟨S400, .i32⟩
  | 37 => ⟨S400x1, .i32⟩
  | 38 => ⟨S400x32, .f32⟩
  | 39 => ⟨S32x32, .f32⟩
  | 40 => ⟨S400x32, .f32⟩
  | 41 => ⟨S1x32, .f32⟩
  | 42 => ⟨S400x32, .f32⟩
  | 43 => ⟨S400x32, .f32⟩
  | 44 => ⟨S_, .f32⟩
  | 45 => ⟨S400x32, .f32⟩
  | 46 => ⟨S400x32, .f32⟩
  | 47 => ⟨S400x32, .f32⟩
  | 48 => ⟨S400x1x32, .f32⟩
  | 49 => ⟨S1x400x32, .f32⟩
  | 50 => ⟨S400x400x32, .f32⟩
  | 51 => ⟨S400x400x32, .f32⟩
  | 52 => ⟨S400x400x32, .f32⟩
  | 53 => ⟨S400x400x32, .f32⟩
  | 54 => ⟨S_, .f32⟩
  | 55 => ⟨S400x400, .f32⟩
  | 56 => ⟨S400x400, .f32⟩
  | 57 => ⟨S_, .f32⟩
  | 58 => ⟨S400x400, .f32⟩
  | 59 => ⟨S400x400, .f32⟩
  | 60 => ⟨S400x400, .f32⟩
  | 61 => ⟨S_, .f32⟩
  | 62 => ⟨S400, .f32⟩
  | 63 => ⟨S_, .f32⟩
  | 64 => ⟨S400, .f32⟩
  | 65 => ⟨S400, .i1⟩
  | 66 => ⟨S_, .f32⟩
  | 67 => ⟨S400, .f32⟩
  | 68 => ⟨S400, .f32⟩
  | 69 => ⟨S_, .f32⟩
  | 70 => ⟨S_, .f32⟩
  | 71 => ⟨S400, .f32⟩
  | 72 => ⟨S400, .f32⟩
  | 73 => ⟨S400x1, .f32⟩
  | 74 => ⟨S400x400, .f32⟩
  | 75 => ⟨S400x400, .f32⟩
  | 76 => ⟨S400x400, .f32⟩
  | 77 => ⟨S_, .f32⟩
  | 78 => ⟨S400, .f32⟩
  | 79 => ⟨S_, .f32⟩
  | 80 => ⟨S400, .f32⟩
  | 81 => ⟨S400, .i1⟩
  | 82 => ⟨S_, .f32⟩
  | 83 => ⟨S400, .f32⟩
  | 84 => ⟨S400, .f32⟩
  | 85 => ⟨S_, .f32⟩
  | 86 => ⟨S_, .f32⟩
  | 87 => ⟨S400, .f32⟩
  | 88 => ⟨S400, .f32⟩
  | 89 => ⟨S400x1, .f32⟩
  | 90 => ⟨S400x400, .f32⟩
  | 91 => ⟨S400x400, .f32⟩
  | 92 => ⟨S400x8x32x12, .f32⟩
  | 93 => ⟨S8x32x400x12, .f32⟩
  | 94 => ⟨S400x8x32x12, .f32⟩
  | 95 => ⟨S8x32x400x12, .f32⟩
  | 96 => ⟨S8x96x400x12, .f32⟩
  | 97 => ⟨S32x8x400x12, .f32⟩
  | 98 => ⟨S8x32x400x12, .f32⟩
  | 99 => ⟨S1x32x1x1, .f32⟩
  | 100 => ⟨S8x32x400x12, .f32⟩
  | 101 => ⟨S8x32x400x12, .f32⟩
  | 102 => ⟨S8x12x400x32, .f32⟩
  | 103 => ⟨S400x8x32x12, .f32⟩
  | 104 => ⟨S8x32x400x12, .f32⟩
  | 105 => ⟨S400x8x32x12, .f32⟩
  | 106 => ⟨S8x32x400x12, .f32⟩
  | 107 => ⟨S8x96x400x12, .f32⟩
  | 108 => ⟨S32x8x400x12, .f32⟩
  | 109 => ⟨S8x32x400x12, .f32⟩
  | 110 => ⟨S1x32x1x1, .f32⟩
  | 111 => ⟨S8x32x400x12, .f32⟩
  | 112 => ⟨S8x32x400x12, .f32⟩
  | 113 => ⟨S8x12x400x32, .f32⟩
  | 114 => ⟨S1x1x400x32, .f32⟩
  | 115 => ⟨S8x12x400x32, .f32⟩
  | 116 => ⟨S8x12x400x32, .f32⟩
  | 117 => ⟨S_, .f32⟩
  | 118 => ⟨S8x12x400x32, .f32⟩
  | 119 => ⟨S8x12x400x32, .f32⟩
  | 120 => ⟨S8x12x400x32, .f32⟩
  | 121 => ⟨S1x1x400x32, .f32⟩
  | 122 => ⟨S8x12x400x32, .f32⟩
  | 123 => ⟨S8x12x400x32, .f32⟩
  | 124 => ⟨S_, .f32⟩
  | 125 => ⟨S8x12x400x32, .f32⟩
  | 126 => ⟨S8x12x400x32, .f32⟩
  | 127 => ⟨S8x12x400x32, .f32⟩
  | _ => ⟨S8x32x400x12, .f32⟩

abbrev hbmTy0_1 (i : Nat) : BufTy := match i % 128 with
  | 0 => ⟨S8x12x32x400, .f32⟩
  | 1 => ⟨S8x12x400x400, .f32⟩
  | 2 => ⟨S8x12x32x400, .f32⟩
  | 3 => ⟨S8x12x400x400, .f32⟩
  | 4 => ⟨S8x12x400x400, .f32⟩
  | 5 => ⟨S_, .f32⟩
  | 6 => ⟨S8x12x400x400, .f32⟩
  | 7 => ⟨S8x12x400x400, .f32⟩
  | 8 => ⟨S8x12x400x400, .f32⟩
  | 9 => ⟨S_, .f32⟩
  | 10 => ⟨S8x12x400x400, .f32⟩
  | 11 => ⟨S8x12x400x400, .f32⟩
  | 12 => ⟨S8x12x400x20, .f32⟩
  | 13 => ⟨S8x12x400x20, .i32⟩
  | 14 => ⟨S8, .i32⟩
  | 15 => ⟨S8x1x1x1, .i32⟩
  | 16 => ⟨S12, .i32⟩
  | 17 => ⟨S1x12x1x1, .i32⟩
  | 18 => ⟨S400, .i32⟩
  | 19 => ⟨S1x1x400x1, .i32⟩
  | 20 => ⟨S_, .f32⟩
  | 21 => ⟨S8x12x400x400, .f32⟩
  | 22 => ⟨S_, .i32⟩
  | 23 => ⟨S8x1x1x1, .i32⟩
  | 24 => ⟨S8x1x1x1, .i1⟩
  | 25 => ⟨S_, .i32⟩
  | 26 => ⟨S8x1x1x1, .i32⟩
  | 27 => ⟨S8x1x1x1, .i32⟩
  | 28 => ⟨S8x1x1x1, .i32⟩
  | 29 => ⟨S_, .i32⟩
  | 30 => ⟨S1x12x1x1, .i32⟩
  | 31 => ⟨S1x12x1x1, .i1⟩
  | 32 => ⟨S_, .i32⟩
  | 33 => ⟨S1x12x1x1, .i32⟩
  | 34 => ⟨S1x12x1x1, .i32⟩
  | 35 => ⟨S1x12x1x1, .i32⟩
  | 36 => ⟨S_, .i32⟩
  | 37 => ⟨S1x1x400x1, .i32⟩
  | 38 => ⟨S1x1x400x1, .i1⟩
  | 39 => ⟨S_, .i32⟩
  | 40 => ⟨S1x1x400x1, .i32⟩
  | 41 => ⟨S1x1x400x1, .i32⟩
  | 42 => ⟨S1x1x400x1, .i32⟩
  | 43 => ⟨S_, .i32⟩
  | 44 => ⟨S8x12x400x20, .i32⟩
  | 45 => ⟨S8x12x400x20, .i1⟩
  | 46 => ⟨S_, .i32⟩
  | 47 => ⟨S8x12x400x20, .i32⟩
  | 48 => ⟨S8x12x400x20, .i32⟩
  | 49 => ⟨S8x12x400x20, .i32⟩
  | 50 => ⟨S8x12x400x20, .i32⟩
  | 51 => ⟨S8x12x400x20, .i32⟩
  | 52 => ⟨S8x12x400x20, .i32⟩
  | 53 => ⟨S8x12x400x20x1, .i32⟩
  | 54 => ⟨S8x12x400x20x1, .i32⟩
  | 55 => ⟨S8x12x400x20x1, .i32⟩
  | 56 => ⟨S8x12x400x20x1, .i32⟩
  | 57 => ⟨S8x12x400x20x4, .i32⟩
  | 58 => ⟨S_, .f32⟩
  | 59 => ⟨S8x12x400x20, .f32⟩
  | 60 => ⟨S8x12x400x400, .f32⟩
  | 61 => ⟨S8x12x400x400, .f32⟩
  | 62 => ⟨S400x400, .i32⟩
  | 63 => ⟨S400x400, .i32⟩
  | 64 => ⟨S_, .i32⟩
  | 65 => ⟨S400x400, .i32⟩
  | 66 => ⟨S400x400, .i32⟩
  | 67 => ⟨S400x400, .i1⟩
  | 68 => ⟨S400x400, .f32⟩
  | 69 => ⟨S1x1x400x400, .f32⟩
  | 70 => ⟨S8x12x400x400, .f32⟩
  | 71 => ⟨S8x12x400x400, .f32⟩
  | 72 => ⟨S_, .f32⟩
  | 73 => ⟨S8x12x400, .f32⟩
  | 74 => ⟨S8x12x400x1, .f32⟩
  | 75 => ⟨S8x12x400x400, .f32⟩
  | 76 => ⟨S8x12x400x400, .f32⟩
  | 77 => ⟨S8x12x400x400, .f32⟩
  | 78 => ⟨S400x400, .i32⟩
  | 79 => ⟨S400x400, .i32⟩
  | 80 => ⟨S_, .i32⟩
  | 81 => ⟨S400x400, .i32⟩
  | 82 => ⟨S400x400, .i32⟩
  | 83 => ⟨S400x400, .i1⟩
  | 84 => ⟨S400x400, .f32⟩
  | 85 => ⟨S1x1x400x400, .f32⟩
  | 86 => ⟨S8x12x400x400, .f32⟩
  | 87 => ⟨S8x12x400x400, .f32⟩
  | 88 => ⟨S_, .f32⟩
  | 89 => ⟨S8x12x400, .f32⟩
  | 90 => ⟨S8x12x400x1, .f32⟩
  | 91 => ⟨S8x12x400x400, .f32⟩
  | 92 => ⟨S8x12x400x400, .f32⟩
  | _ => ⟨S8x32x400x12, .f32⟩

abbrev hbmTy (i : Nat) : BufTy := match i / 128 with
  | 0 => hbmTy0_0 i
  | 1 => hbmTy0_1 i
  | _ => ⟨S8x32x400x12, .f32⟩

abbrev bufTy : (tb : Table) → Fin (tcTables nBuf tb) → BufTy
  | .hbm, ⟨i, _⟩ => hbmTy i
  | _, _ => ⟨S8x32x400x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_call0_v0 : Ref sig .tc := ⟨.hbm, 70, rfl⟩
abbrev main_call0_v1 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_14 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_15 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_16 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_call2_cst : Ref sig .tc := ⟨.hbm, 137, rfl⟩
abbrev main_call2_v0 : Ref sig .tc := ⟨.hbm, 138, rfl⟩
abbrev main_v102 : Ref sig .tc := ⟨.hbm, 139, rfl⟩
abbrev main_values : Ref sig .tc := ⟨.hbm, 140, rfl⟩
abbrev main_indices : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_17 : Ref sig .tc := ⟨.hbm, 148, rfl⟩
abbrev main_v109 : Ref sig .tc := ⟨.hbm, 149, rfl⟩
abbrev main_c_18 : Ref sig .tc := ⟨.hbm, 150, rfl⟩
abbrev main_v110 : Ref sig .tc := ⟨.hbm, 151, rfl⟩
abbrev main_v111 : Ref sig .tc := ⟨.hbm, 152, rfl⟩
abbrev main_c_19 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_c_20 : Ref sig .tc := ⟨.hbm, 157, rfl⟩
abbrev main_v115 : Ref sig .tc := ⟨.hbm, 158, rfl⟩
abbrev main_v116 : Ref sig .tc := ⟨.hbm, 159, rfl⟩
abbrev main_c_21 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_c_22 : Ref sig .tc := ⟨.hbm, 164, rfl⟩
abbrev main_v120 : Ref sig .tc := ⟨.hbm, 165, rfl⟩
abbrev main_v121 : Ref sig .tc := ⟨.hbm, 166, rfl⟩
abbrev main_c_23 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_c_24 : Ref sig .tc := ⟨.hbm, 171, rfl⟩
abbrev main_v125 : Ref sig .tc := ⟨.hbm, 172, rfl⟩
abbrev main_v126 : Ref sig .tc := ⟨.hbm, 173, rfl⟩
abbrev main_c_25 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_26 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_c_27 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_28 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_c_29 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_30 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩

abbrev nD : Nat := 1
abbrev τ : Topo := Topo.v7x

variable {F : FTy → Type} [FloatOps F]
-- ==== Proof.Step.lean ====
module

public import proofs.«01_k».proof.Proof.Gen.KernelIdeal.Frame

@[expose] public section

/-! What the kernel does with one time step, written once: the two graph convolutions, the gated node
vectors, the adjacency matrix, the search for its row thresholds, the selection of the entries kept and
the two normalized results. -/

noncomputable section

namespace Cert.KernelIdeal.Step

open Idealize.ShloMosaic Cert.KernelIdeal Cert.KernelIdeal.Gen

variable {F : FTy → Type} [FloatOps F]

/-- The number `w` everywhere in a matrix of nodes by nodes. -/
abbrev fill (w : BitVec 32) : FVec F S400x400 .f32 := broadcast S400x400 (Scalar.ofBits .f32 w)

/-- One graph convolution: the features, the features propagated once and twice through `a`, joined and
multiplied by the weights, plus the bias. -/
def gcn (v0 : Vec F S1x1x32x400 .f32) (a : Vec F S400x400 .f32) (w : Vec F S32x96 .f32) (b : Vec F S1x32 .f32) :
    FVec F S400x32 .f32 :=
  have x : FVec F S32x400 .f32 := shapeCast S32x400 v0 shapeCasts_S1x1x32x400_S32x400
  have a' : FVec F S400x400 .f32 := shapeCast S400x400 a shapeCasts_S400x400_S400x400
  have z : FVec F S32x400 .f32 := constant S32x400 .f32 0x00000000#32
  have x1 : FVec F S32x400 .f32 := matmul dot_S32x400_S400x400_S32x400_1_0_0_1_n_n none x a' z
  have x2 : FVec F S32x400 .f32 := matmul dot_S32x400_S400x400_S32x400_1_0_0_1_n_n none x1 a' z
  have h : FVec F S96x400 .f32 := concatenate S96x400 0 [⟨S32x400, x⟩, ⟨S32x400, x1⟩, ⟨S32x400, x2⟩]
    concatenates_S32x400_S32x400_S32x400_S96x400_d0
  addf (matmul dot_S96x400_S32x96_S400x32_0_1_1_0_n_n none h w (constant S400x32 .f32 0x00000000#32))
    (broadcastTo S400x32 (shapeCast S1x32 b shapeCasts_S1x32_S1x32) broadcasts_S1x32_S400x32)

/-- Node vectors gated by a convolution: `tanh (3 · (n · f))`. -/
def gate (n : Vec F S400x32 .f32) (f : FVec F S400x32 .f32) : FVec F S400x32 .f32 :=
  tanh (mulf (broadcast S400x32 (Scalar.ofBits .f32 0x40400000#32))
    (mulf (shapeCast S400x32 n shapeCasts_S400x32_S400x32) f))

/-- The adjacency matrix of two families of node vectors: the positive part of
`tanh (3 · (p qᵀ − q pᵀ))`. -/
def adjOf (p q : FVec F S400x32 .f32) : FVec F S400x400 .f32 :=
  maximumf (tanh (mulf (fill 0x40400000#32)
    (subf (matmul dot_S400x32_S400x32_S400x400_1_1_0_0_n_n none p q (constant S400x400 .f32 0x00000000#32))
      (matmul dot_S400x32_S400x32_S400x400_1_1_0_0_n_n none q p (constant S400x400 .f32 0x00000000#32)))))
    (fill 0x00000000#32)

/-- The adjacency matrix of one time step from the kernel's operands. -/
def adj (v0 : Vec F S1x1x32x400 .f32) (a0 a1 : Vec F S400x400 .f32) (n1 n2 : Vec F S400x32 .f32)
    (w1 : Vec F S32x96 .f32) (b1 : Vec F S1x32 .f32) (w2 : Vec F S32x96 .f32) (b2 : Vec F S1x32 .f32) :
    FVec F S400x400 .f32 :=
  adjOf (gate n1 (gcn v0 a0 w1 b1)) (gate n2 (gcn v0 a1 w2 b2))

/-- A row's number as a column. -/
abbrev col (v : FVec F S400 .f32) : FVec F S400x1 .f32 := shapeCast S400x1 v shapeCasts_S400_S400x1

/-- A column repeated along the rows. -/
abbrev wide (v : FVec F S400x1 .f32) : FVec F S400x400 .f32 := broadcastTo S400x400 v broadcasts_S400x1_S400x400

/-- The sum of each row. -/
abbrev rowSum (v : FVec F S400x400 .f32) : FVec F S400x1 .f32 :=
  col (multiReduction .add [1] S400 v 0x00000000#32 reduces_S400x400_S400 (.inl rfl) rfl)

/-- The largest entry of each row. -/
abbrev rowMax (v : FVec F S400x400 .f32) : FVec F S400x1 .f32 :=
  col (multiReduction .maximumf [1] S400 v 0xFF800000#32 reduces_S400x400_S400 (.inl rfl) rfl)

/-- The entries below the row's threshold, the others replaced by −1. -/
def below (a : FVec F S400x400 .f32) (t : FVec F S400x1 .f32) : FVec F S400x400 .f32 :=
  select (cmpf .olt a (wide t)) a (fill 0xBF800000#32)

/-- One round of the threshold search: where fewer than twenty entries reach the threshold, it falls to
the largest entry below it. -/
def next (a : FVec F S400x400 .f32) (t : FVec F S400x1 .f32) : FVec F S400x1 .f32 :=
  select (cmpf .oge (subf (broadcast S400x1 (Scalar.ofBits .f32 0x00000000#32))
      (rowSum (minimumf (below a t) (fill 0x00000000#32))))
    (broadcast S400x1 (Scalar.ofBits .f32 0x41A00000#32))) t (rowMax (below a t))

/-- The thresholds after `n` rounds, starting from the rows' largest entries. -/
def thr (a : FVec F S400x400 .f32) : ℕ → FVec F S400x1 .f32
  | 0 => rowMax a
  | n + 1 => next a (thr a n)

/-- The bits of the entries kept: those above the threshold, and of those equal to it the first ones, as
many as complete twenty. -/
def keep (a : FVec F S400x400 .f32) (t : FVec F S400x1 .f32) : IVec S400x400 1 :=
  have gt : IVec S400x400 1 := cmpf .ogt a (wide t)
  have tie : IVec S400x400 1 := cmpf .oeq a (wide t)
  have lt : IVec S400x400 1 := cmpi .slt (iota .tc S400x400 32 [0] iota_S400x400_d0_w32)
    (iota .tc S400x400 32 [1] iota_S400x400_d1_w32)
  have rank : FVec F S400x400 .f32 := matmul dot_S400x400_S400x400_S400x400_1_0_0_1_n_n none
    (truncf .bf16 (select tie (fill 0x3F800000#32) (fill 0x00000000#32)) bitsLt_bf16_f32)
    (truncf .bf16 (select lt (fill 0x3F800000#32) (fill 0x00000000#32)) bitsLt_bf16_f32)
    (constant S400x400 .f32 0x00000000#32)
  ori gt (andi tie (cmpf .olt rank (wide (subf (broadcast S400x1 (Scalar.ofBits .f32 0x41A00000#32))
    (rowSum (select gt (fill 0x3F800000#32) (fill 0x00000000#32)))))))

/-- The unit matrix. -/
def eye : FVec F S400x400 .f32 :=
  select (cmpi .eq (iota .tc S400x400 32 [0] iota_S400x400_d0_w32) (iota .tc S400x400 32 [1] iota_S400x400_d1_w32))
    (fill 0x3F800000#32) (fill 0x00000000#32)

/-- The entries kept plus the unit matrix. -/
def kept (a : FVec F S400x400 .f32) (t : FVec F S400x1 .f32) : FVec F S400x400 .f32 :=
  addf (select (keep a t) a (fill 0x00000000#32)) eye

/-- The matrix divided by its row sums. -/
def norm (a : FVec F S400x400 .f32) : FVec F S400x400 .f32 := divf a (wide (rowSum a))

/-- The first result of a time step. -/
def res1 (a : FVec F S400x400 .f32) (t : FVec F S400x1 .f32) : FVec F S400x400 .f32 := norm (kept a t)

/-- The transpose plus the unit matrix, divided by the transpose's row sums plus one. -/
def flip (p : FVec F S400x400 .f32) : FVec F S400x400 .f32 :=
  have q : FVec F S400x400 .f32 := transpose S400x400 [1, 0] p transposes_S400x400_p1_0_S400x400
  divf (addf q eye) (wide (addf (rowSum q) (broadcast S400x1 (Scalar.ofBits .f32 0x3F800000#32))))

/-- A matrix as the block the kernel stores. -/
abbrev box (v : FVec F S400x400 .f32) : FVec F S1x1x400x400 .f32 :=
  shapeCast S1x1x400x400 v shapeCasts_S400x400_S1x1x400x400

/-- The first block stored for a time step. -/
def out1 (a : FVec F S400x400 .f32) : FVec F S1x1x400x400 .f32 := box (res1 a (thr a 19))

/-- The second block stored for a time step. -/
def out2 (a : FVec F S400x400 .f32) : FVec F S1x1x400x400 .f32 := box (flip (res1 a (thr a 19)))

end Cert.KernelIdeal.Step
-- ==== Proof.Rank.lean ====
module

public import Idealize.ShloMosaic.Lib.PlanTiles.StableSort
public import Mathlib.Order.Interval.Finset.Fin

@[expose] public section

/-! The order in which a row's entries are kept: larger entries first and, of equal ones, the earlier
column first. The threshold search and the stable sort both keep the first twenty of this order. -/

namespace Cert.Rank

open Idealize.ShloMosaic

variable {N : ℕ} {α : Type} [LinearOrder α]

/-- Entry `k` comes before entry `j`: it is larger, or equal and in an earlier column. -/
def Before (r : Fin N → α) (k j : Fin N) : Prop := r j < r k ∨ (r k = r j ∧ k < j)

instance (r : Fin N → α) (k j : Fin N) : Decidable (Before r k j) := by unfold Before; infer_instance

/-- The place of an entry: how many come before it. -/
def place (r : Fin N → α) (j : Fin N) : ℕ := (Finset.univ.filter fun k => Before r k j).card

/-- How many entries exceed `t`. -/
def above (r : Fin N → α) (t : α) : ℕ := (Finset.univ.filter fun k => t < r k).card

/-- How many entries reach `t`. -/
def reach (r : Fin N → α) (t : α) : ℕ := (Finset.univ.filter fun k => t ≤ r k).card

/-- How many entries equal to `t` stand before column `j`. -/
def ties (r : Fin N → α) (t : α) (j : Fin N) : ℕ := (Finset.univ.filter fun k => r k = t ∧ k < j).card

/-- What the threshold search keeps true after `n` rounds, for `c` entries to be found: the threshold is
an entry, fewer than `c` entries exceed it, and at least `c` or more than `n` entries reach it. -/
structure Found (r : Fin N → α) (c n : ℕ) (t : α) : Prop where
  mem : ∃ j, r j = t
  few : above r t < c
  many : c ≤ reach r t ∨ n + 1 ≤ reach r t

/-- `M` is the largest entry below `t`. -/
structure LargestBelow (r : Fin N → α) (t M : α) : Prop where
  mem : ∃ j, r j = M
  lt : M < t
  le : ∀ j, r j < t → r j ≤ M

/-- The largest entry of the row satisfies the search's conditions at the start. -/
theorem Found.start {r : Fin N → α} {c : ℕ} (hc : 0 < c) {t : α} (hm : ∃ j, r j = t) (hle : ∀ j, r j ≤ t) :
    Found r c 0 t := by
  refine ⟨hm, ?_, Or.inr ?_⟩
  · have : above r t = 0 := by
      rw [above, Finset.card_eq_zero, Finset.filter_eq_empty_iff]
      exact fun j _ => not_lt.mpr (hle j)
    omega
  · obtain ⟨j, hj⟩ := hm
    exact Finset.card_pos.mpr ⟨j, by simp [hj]⟩

/-- A round that keeps a threshold reached by enough entries. -/
theorem Found.stay {r : Fin N → α} {c n : ℕ} {t : α} (h : Found r c n t) (hr : c ≤ reach r t) :
    Found r c (n + 1) t := ⟨h.mem, h.few, Or.inl hr⟩

/-- A round that lowers the threshold to the largest entry below it. -/
theorem Found.lower {r : Fin N → α} {c n : ℕ} {t M : α} (h : Found r c n t) (hr : ¬ c ≤ reach r t)
    (hM : LargestBelow r t M) : Found r c (n + 1) M := by
  have habove : above r M = reach r t := by
    unfold above reach
    congr 1
    ext j
    simp only [Finset.mem_filter, Finset.mem_univ, true_and]
    exact ⟨fun hj => not_lt.mp fun hlt => absurd (hM.le j hlt) (not_le.mpr hj), fun hj => lt_of_lt_of_le hM.lt hj⟩
  refine ⟨hM.mem, by omega, Or.inr ?_⟩
  have hn : n + 1 ≤ reach r t := h.many.resolve_left hr
  have hlt : reach r t < reach r M := by
    refine Finset.card_lt_card ⟨fun j hj => ?_, fun hsub => ?_⟩
    · simp only [Finset.mem_filter, Finset.mem_univ, true_and] at hj ⊢
      exact le_of_lt (lt_of_lt_of_le hM.lt hj)
    · obtain ⟨j, hj⟩ := hM.mem
      have : j ∈ Finset.univ.filter fun k => t ≤ r k := hsub (by simp [hj])
      simp only [Finset.mem_filter, Finset.mem_univ, true_and, hj] at this
      exact absurd hM.lt (not_lt.mpr this)
  omega

/-- When the search is over, an entry exceeds the threshold, or equals it with few enough ties before it,
exactly when its place is among the first `c`. -/
theorem keep_iff {r : Fin N → α} {c : ℕ} {t : α} (hfew : above r t < c) (hmany : c ≤ reach r t) (j : Fin N) :
    (t < r j ∨ (r j = t ∧ ties r t j + above r t < c)) ↔ place r j < c := by
  rcases lt_trichotomy t (r j) with h | h | h
  · refine iff_of_true (Or.inl h) (lt_of_le_of_lt (Finset.card_le_card fun k hk => ?_) hfew)
    simp only [Finset.mem_filter, Finset.mem_univ, true_and] at hk ⊢
    rcases hk with hk | hk
    · exact h.trans hk
    · rw [hk.1]; exact h
  · subst h
    have hp : place r j = ties r (r j) j + above r (r j) := by
      unfold place ties above
      rw [← Finset.card_union_of_disjoint]
      · congr 1
        ext k
        simp only [Finset.mem_filter, Finset.mem_univ, true_and, Finset.mem_union]
        exact Or.comm
      · refine Finset.disjoint_filter.mpr fun k _ hk hk' => ?_
        rw [hk.1] at hk'
        exact lt_irrefl _ hk'
    rw [hp]
    simp
  · refine iff_of_false ?_ (not_lt.mpr (hmany.trans (Finset.card_le_card fun k hk => ?_)))
    · rintro (h' | ⟨h', -⟩)
      · exact lt_asymm h h'
      · exact absurd h' (ne_of_lt h)
    · simp only [Finset.mem_filter, Finset.mem_univ, true_and] at hk ⊢
      exact Or.inl (lt_of_lt_of_le h hk)

/-- No entry comes before itself, and of two entries at most one comes before the other. -/
theorem Before.asymm {r : Fin N → α} {k j : Fin N} (h : Before r k j) : ¬ Before r j k := by
  rintro (h' | ⟨h', hl'⟩) <;> rcases h with h | ⟨h, hl⟩
  · exact lt_asymm h h'
  · exact absurd h' (by simp [h])
  · exact absurd h (by simp [h'])
  · exact lt_asymm hl hl'

/-- The stable sort of the columns, larger entries first, lists them in the order `Before`. -/
theorem pairwise_sort (r : Fin N → α) :
    (sortPositions N fun a b => decide (r b < r a)).Pairwise (Before r) := by
  classical
  let G : Fin N → ℕ := fun a => (Finset.univ.filter fun k => r k < r a).card
  have hmono : ∀ a b, r a ≤ r b → G a ≤ G b := fun a b h => Finset.card_le_card fun k hk => by
    simp only [Finset.mem_filter, Finset.mem_univ, true_and] at hk ⊢
    exact lt_of_lt_of_le hk h
  have hstrict : ∀ a b, r a < r b → G a < G b := fun a b h => by
    refine Finset.card_lt_card ⟨fun k hk => ?_, fun hsub => ?_⟩
    · simp only [Finset.mem_filter, Finset.mem_univ, true_and] at hk ⊢
      exact hk.trans h
    · have : a ∈ Finset.univ.filter fun k => r k < r a := hsub (by simpa using h)
      simp at this
  have hlt : ∀ a b, G a < G b ↔ r a < r b := fun a b =>
    ⟨fun h => not_le.mp fun hle => absurd (hmono b a hle) (not_le.mpr h), hstrict a b⟩
  have hfun : (fun a b : Fin N => decide (r b < r a)) = fun a b => decide (G b < G a) := by
    funext a b
    simp only [hlt]
  rw [hfun]
  refine (PlanTiles.pairwise_stableSort_lex G (· < ·) (List.finRange N) (List.pairwise_lt_finRange N)).imp ?_
  rintro a b (h | ⟨h, hab⟩)
  · exact Or.inl ((hlt b a).mp h)
  · refine Or.inr ⟨le_antisymm ?_ ?_, hab⟩
    · exact not_lt.mp fun hl => absurd (hstrict _ _ hl) (by omega)
    · exact not_lt.mp fun hl => absurd (hstrict _ _ hl) (by omega)

/-- The entry the stable sort puts at position `q` has the place `q`. -/
theorem place_sortedFrom (r : Fin N → α) (q : Fin N) :
    place r (sortedFrom (fun a b => decide (r b < r a)) q) = q.val := by
  classical
  let σ : Fin N → Fin N := sortedFrom fun a b => decide (r b < r a)
  have hnd : (sortPositions N fun a b => decide (r b < r a)).Nodup :=
    (perm_sortPositions N _).nodup_iff.mpr (List.nodup_finRange N)
  have hinj : Function.Injective σ := fun a b h => by
    have := (List.Nodup.get_inj_iff hnd).mp h
    simpa using this
  have hlt : ∀ a b : Fin N, a < b → Before r (σ a) (σ b) := fun a b h =>
    List.pairwise_iff_get.mp (pairwise_sort r) _ _ (by simpa using h)
  have hiff : ∀ a b : Fin N, Before r (σ a) (σ b) ↔ a < b := fun a b => by
    refine ⟨fun h => ?_, hlt a b⟩
    rcases lt_trichotomy a b with h' | h' | h'
    · exact h'
    · subst h'; exact absurd h h.asymm
    · exact absurd (hlt b a h') h.asymm
  have hsurj : Function.Surjective σ := Finite.surjective_of_injective hinj
  show (Finset.univ.filter fun k => Before r k (σ q)).card = q.val
  rw [show (Finset.univ.filter fun k => Before r k (σ q)) = (Finset.Iio q).image σ from ?_,
    Finset.card_image_of_injective _ hinj, Fin.card_Iio]
  ext k
  simp only [Finset.mem_filter, Finset.mem_univ, true_and, Finset.mem_image, Finset.mem_Iio]
  constructor
  · intro hk
    obtain ⟨a, rfl⟩ := hsurj k
    exact ⟨a, (hiff a q).mp hk, rfl⟩
  · rintro ⟨a, ha, rfl⟩
    exact hlt a q ha

/-- An entry is at one of the first `c` positions of the stable sort exactly when its place is below `c`. -/
theorem exists_sortedFrom_iff (r : Fin N → α) {c : ℕ} (hc : c ≤ N) (j : Fin N) :
    (∃ q : Fin c, sortedFrom (fun a b => decide (r b < r a)) (q.castLE hc) = j) ↔ place r j < c := by
  constructor
  · rintro ⟨q, rfl⟩
    rw [place_sortedFrom]
    exact q.isLt
  · intro h
    refine ⟨⟨place r j, h⟩, ?_⟩
    have hmem : j ∈ sortPositions N fun a b => decide (r b < r a) :=
      (perm_sortPositions N _).mem_iff.mpr (List.mem_finRange j)
    obtain ⟨n, hn⟩ := List.mem_iff_get.mp hmem
    have hq : sortedFrom (fun a b => decide (r b < r a)) (n.cast (length_sortPositions N _)) = j := hn
    have hp := place_sortedFrom r (n.cast (length_sortPositions N _))
    rw [hq] at hp
    exact (congrArg (sortedFrom fun a b => decide (r b < r a)) (Fin.ext hp)).trans hq

end Cert.Rank
-- ==== Proof.Spec.lean ====
module

public import proofs.«01_k».proof.Proof.Rank
public import Idealize.ShloMosaic.PureOps.Ideal

@[expose] public section

/-! What both programs compute for one batch entry and one time step, as functions of coordinates over
the extended reals. -/

noncomputable section

namespace Cert.Spec

open Idealize.ShloMosaic Cert.Rank

/-- A matrix of nodes by nodes. -/
abbrev Mat := Fin 400 → Fin 400 → EReal

/-- One graph convolution at node `n` and channel `o`: the features, the features propagated once and
twice through `a`, joined, multiplied by the weights, plus the bias. -/
def conv (x : Fin 32 → Fin 400 → EReal) (a : Mat) (w : Fin 32 → Fin 96 → EReal) (b : Fin 32 → EReal)
    (n : Fin 400) (o : Fin 32) : EReal :=
  ∑ k : Fin 96, (if h : k.val < 32 then x ⟨k.val, h⟩ n
    else if h : k.val - 32 < 32 then ∑ v, x ⟨k.val - 32, h⟩ v * a v n
    else ∑ v, (∑ u, x ⟨k.val - 32 - 32, by omega⟩ u * a u v) * a v n) * w o k + b o

/-- A node vector's entry gated by a convolution's. -/
def gate (n f : EReal) : EReal := Ideal.tanh (Ideal.ofBits .f32 0x40400000#32 * (n * f))

/-- The adjacency matrix of two families of node vectors. -/
def adj (p q : Fin 400 → Fin 32 → EReal) : Mat := fun i j =>
  max (Ideal.tanh (Ideal.ofBits .f32 0x40400000#32 * (∑ k, p i k * q j k - ∑ k, q i k * p j k))) 0

/-- The adjacency matrix of one batch entry and time step: features `x`, propagation matrices `a`, node vectors
`n`, weights `w` and biases `b` of the two convolutions. -/
def graph (x : Fin 32 → Fin 400 → EReal) (a₁ a₂ : Mat) (n₁ n₂ : Fin 400 → Fin 32 → EReal)
    (w₁ : Fin 32 → Fin 96 → EReal) (b₁ : Fin 32 → EReal) (w₂ : Fin 32 → Fin 96 → EReal) (b₂ : Fin 32 → EReal) : Mat :=
  adj (fun n o => gate (n₁ n o) (conv x a₁ w₁ b₁ n o)) (fun n o => gate (n₂ n o) (conv x a₂ w₂ b₂ n o))

/-- The unit matrix. -/
def unit : Mat := fun i j => if i = j then 1 else 0

/-- The twenty entries kept of each row, plus the unit matrix. -/
def kept (r : Mat) : Mat := fun i j => (if place (r i) j < 20 then r i j else 0) + unit i j

/-- The first result: every row divided by its sum. -/
def first (r : Mat) : Mat := fun i j => Ideal.div (kept r i j) (∑ k, kept r i k)

/-- The second result: the transpose of the first plus the unit matrix, its rows divided by their sums. -/
def second (r : Mat) : Mat := fun i j => Ideal.div (first r j i + unit i j) (∑ k, (first r k i + unit i k))

/-- A row sum of a matrix plus the unit matrix is the row sum of the matrix plus one. -/
theorem sum_add_unit (f : Fin 400 → EReal) (i : Fin 400) : ∑ k, (f k + unit i k) = ∑ k, f k + 1 := by
  rw [Finset.sum_add_distrib]
  congr 1
  simp [unit]

/-- No entry of the adjacency matrix is negative. -/
theorem adj_nonneg (p q : Fin 400 → Fin 32 → EReal) (i j : Fin 400) : 0 ≤ adj p q i j := le_max_right _ _

end Cert.Spec
-- ==== Proof.Search.lean ====
module

public import proofs.«01_k».proof.Proof.Rank
public import Idealize.ShloMosaic.Lib.IdealHost

@[expose] public section

/-! The threshold search on one row of numbers, as extended reals: counts written as sums of ones, the
largest entry written as a fold. After nineteen rounds the entries kept are those whose place is below
twenty. -/

noncomputable section

namespace Cert.Search

open Idealize.ShloMosaic Cert.Rank

/-- The pattern of minus one. -/
theorem ofBits_neg_one : Ideal.ofBits .f32 0xBF800000#32 = ((-1 : ℝ) : EReal) := by
  simp [Ideal.ofBits, Ideal.ieee, -EReal.coe_mul, -EReal.coe_neg]; norm_num

/-- The pattern of twenty. -/
theorem ofBits_twenty : Ideal.ofBits .f32 0x41A00000#32 = ((20 : ℝ) : EReal) := by
  simp [Ideal.ofBits, Ideal.ieee, -EReal.coe_mul]; norm_num

/-- The pattern of minus infinity. -/
theorem ofBits_bot : Ideal.ofBits .f32 0xFF800000#32 = ⊥ := by
  simp [Ideal.ofBits, Ideal.ieee]

/-- A sum of real numbers, taken in the extended reals. -/
theorem sum_coe {ι : Type} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-- A sum of ones is a count. -/
theorem sum_ones {ι : Type} [Fintype ι] (p : ι → Prop) [DecidablePred p] :
    ∑ x, (if p x then (1 : EReal) else 0) = (((Finset.univ.filter p).card : ℝ) : EReal) := by
  rw [← Finset.sum_boole, ← sum_coe]
  exact Finset.sum_congr rfl fun x _ => by split <;> simp

variable {N : ℕ} (r : Fin N → EReal)

/-- One round of the search, as the kernel writes it. -/
def next (t : EReal) : EReal :=
  if Ideal.ofBits .f32 0x41A00000#32 ≤ 0 - ∑ x, min (if r x < t then r x else Ideal.ofBits .f32 0xBF800000#32) 0 then t
  else Finset.fold max (Ideal.ofBits .f32 0xFF800000#32)
    (fun x => if r x < t then r x else Ideal.ofBits .f32 0xBF800000#32) Finset.univ

/-- The threshold after `n` rounds. -/
def thr : ℕ → EReal
  | 0 => Finset.fold max (Ideal.ofBits .f32 0xFF800000#32) r Finset.univ
  | n + 1 => next r (thr n)

variable {r}

/-- The kernel's count of the entries that reach the threshold. -/
theorem count_iff (h0 : ∀ x, 0 ≤ r x) (t : EReal) :
    Ideal.ofBits .f32 0x41A00000#32 ≤ 0 - ∑ x, min (if r x < t then r x else Ideal.ofBits .f32 0xBF800000#32) 0 ↔
      20 ≤ reach r t := by
  have hterm : ∀ x, min (if r x < t then r x else Ideal.ofBits .f32 0xBF800000#32) 0
      = (((if t ≤ r x then (-1 : ℝ) else 0) : ℝ) : EReal) := fun x => by
    by_cases h : r x < t
    · rw [if_pos h, if_neg (not_le.mpr h), min_eq_right (h0 x), EReal.coe_zero]
    · rw [if_neg h, if_pos (not_lt.mp h), ofBits_neg_one, min_eq_left]
      exact EReal.coe_nonpos.mpr (by norm_num)
  have hsum : ∑ x, (if t ≤ r x then (-1 : ℝ) else 0) = -(reach r t : ℝ) := by
    rw [← Finset.sum_filter, Finset.sum_const, nsmul_eq_mul, mul_neg_one]
    rfl
  simp only [hterm]
  rw [sum_coe, hsum, ofBits_twenty, ← EReal.coe_zero, ← EReal.coe_sub, EReal.coe_le_coe_iff, zero_sub, neg_neg]
  exact_mod_cast Iff.rfl

/-- A fold of `max` from minus infinity over a nonempty family takes one of its values and bounds them all. -/
theorem fold_max {f : Fin N → EReal} (hN : 0 < N) :
    (∃ j, f j = Finset.fold max (Ideal.ofBits .f32 0xFF800000#32) f Finset.univ) ∧
      ∀ j, f j ≤ Finset.fold max (Ideal.ofBits .f32 0xFF800000#32) f Finset.univ := by
  have hle : ∀ j, f j ≤ Finset.fold max (Ideal.ofBits .f32 0xFF800000#32) f Finset.univ := fun j =>
    Finset.le_fold_max _ |>.mpr (Or.inr ⟨j, Finset.mem_univ j, le_rfl⟩)
  refine ⟨?_, hle⟩
  rcases (Finset.le_fold_max _).mp (le_refl (Finset.fold max (Ideal.ofBits .f32 0xFF800000#32) f Finset.univ))
    with h | ⟨j, -, h⟩
  · refine ⟨⟨0, hN⟩, le_antisymm (hle _) (h.trans ?_)⟩
    rw [ofBits_bot]
    exact bot_le
  · exact ⟨j, le_antisymm (hle j) h⟩

/-- The search's conditions hold after every round. -/
theorem found (hN : 20 ≤ N) (h0 : ∀ x, 0 ≤ r x) (n : ℕ) : Found r 20 n (thr r n) := by
  induction n with
  | zero =>
    obtain ⟨h1, h2⟩ := fold_max (f := r) (by omega)
    exact Found.start (by omega) h1 h2
  | succ n ih =>
    show Found r 20 (n + 1) (next r (thr r n))
    rw [next]
    by_cases h : 20 ≤ reach r (thr r n)
    · rw [if_pos ((count_iff h0 _).mpr h)]
      exact ih.stay h
    · rw [if_neg (mt (count_iff h0 _).mp h)]
      refine ih.lower h ?_
      obtain ⟨⟨j, hj⟩, hle⟩ := fold_max (N := N)
        (f := fun x => if r x < thr r n then r x else Ideal.ofBits .f32 0xBF800000#32) (by omega)
      obtain ⟨k, hk⟩ : ∃ k, r k < thr r n := by
        by_contra hno
        push Not at hno
        refine h (hN.trans (le_of_eq ?_))
        rw [reach, Finset.filter_true_of_mem fun k _ => hno k, Finset.card_univ, Fintype.card_fin]
      have hlt : r j < thr r n := by
        by_contra hno
        have h1 := hle k
        rw [← hj] at h1
        simp only [if_pos hk, if_neg hno, ofBits_neg_one] at h1
        exact absurd (h0 k) (not_le.mpr (lt_of_le_of_lt h1 (EReal.coe_neg'.mpr (by norm_num))))
      rw [if_pos hlt] at hj
      refine ⟨⟨j, hj⟩, hj ▸ hlt, fun i hi => ?_⟩
      have := hle i
      rwa [if_pos hi] at this

/-- The kernel's choice of an entry after nineteen rounds: above the threshold, or equal to it with fewer
ties before it than are wanted. -/
theorem keep_iff (hN : 20 ≤ N) (h0 : ∀ x, 0 ≤ r x) (j : Fin N) :
    (thr r 19 < r j ∨ (r j = thr r 19 ∧
        ∑ x, (if x < j then (if r x = thr r 19 then (1 : EReal) else 0) else 0)
          < Ideal.ofBits .f32 0x41A00000#32 - ∑ x, (if thr r 19 < r x then (1 : EReal) else 0))) ↔
      place r j < 20 := by
  have hf := found hN h0 19
  rw [← Rank.keep_iff hf.few (hf.many.elim id id) j]
  have hties : ∑ x, (if x < j then (if r x = thr r 19 then (1 : EReal) else 0) else 0)
      = ((ties r (thr r 19) j : ℝ) : EReal) := by
    rw [ties, ← sum_ones]
    refine Finset.sum_congr rfl fun x _ => ?_
    by_cases h1 : x < j <;> by_cases h2 : r x = thr r 19 <;> simp [h1, h2]
  have hab : ∑ x, (if thr r 19 < r x then (1 : EReal) else 0) = ((above r (thr r 19) : ℝ) : EReal) := by
    rw [above, ← sum_ones]
  rw [hties, hab, ofBits_twenty, ← EReal.coe_sub, EReal.coe_lt_coe_iff, lt_sub_iff_add_lt]
  norm_cast

end Cert.Search
-- ==== Proof.StepValue.lean ====
module

public import proofs.«01_k».proof.Proof.Step
public import proofs.«01_k».proof.Proof.Spec
public import proofs.«01_k».proof.Proof.Search
public import Idealize.ShloMosaic.Lib.Pointwise

@[expose] public section

/-! The kernel's time step read at coordinates: it is what `Spec` says. -/

set_option maxRecDepth 16384

noncomputable section

namespace Cert.KernelIdeal.Step

open Idealize.ShloMosaic Cert.KernelIdeal Cert.KernelIdeal.Gen

/-- A matrix's entry by row and column. -/
abbrev mat (a : FVec Ideal S400x400 .f32) : Spec.Mat := fun i j => a (ix2 i j)

/-- The bit of `x < j` for two node numbers. -/
theorem cmpi_slt (x j : Fin 400) :
    IntOp.cmpi .slt (BitVec.ofNat 32 x.val) (BitVec.ofNat 32 j.val) = BitVec.ofBool (decide (x < j)) := by
  have h : ∀ n : Fin 400, (BitVec.ofNat 32 n.val).toInt = n.val := fun n => by
    have hn := n.isLt
    rw [BitVec.toInt_eq_toNat_cond, BitVec.toNat_ofNat, Nat.mod_eq_of_lt (by omega), if_pos (by omega)]
  simp only [IntOp.cmpi, BitVec.slt, h, Fin.lt_def, Nat.cast_lt]

/-- The bit of `x = j` for two node numbers. -/
theorem cmpi_eq (x j : Fin 400) :
    IntOp.cmpi .eq (BitVec.ofNat 32 x.val) (BitVec.ofNat 32 j.val) = BitVec.ofBool (decide (x = j)) := by
  have hx := x.isLt
  have hj := j.isLt
  have h : (BitVec.ofNat 32 x.val = BitVec.ofNat 32 j.val) ↔ x = j := by
    rw [← BitVec.toNat_inj, BitVec.toNat_ofNat, BitVec.toNat_ofNat, Nat.mod_eq_of_lt (by omega),
      Nat.mod_eq_of_lt (by omega), Fin.ext_iff]
  simp only [IntOp.cmpi, ← h]
  rfl

/-- A disjunction with a conjunction, on decided bits. -/
theorem ori_andi_ofBool (p q s : Prop) [Decidable p] [Decidable q] [Decidable s] :
    IntOp.ori (BitVec.ofBool (decide p)) (IntOp.andi (BitVec.ofBool (decide q)) (BitVec.ofBool (decide s)))
      = BitVec.ofBool (decide (p ∨ q ∧ s)) := by
  by_cases p <;> by_cases q <;> by_cases s <;> simp_all [IntOp.ori, IntOp.andi]

/-- A choice by a decided bit. -/
theorem select_ofBool {α : Type} (p : Prop) [Decidable p] (x y : α) :
    Scalar.select (BitVec.ofBool (decide p)) x y = if p then x else y := by
  by_cases h : p <;> simp [Scalar.select, h]

/-- The convolution at a node and a channel. -/
theorem gcn_apply (v0 : Vec Ideal S1x1x32x400 .f32) (a : Vec Ideal S400x400 .f32) (w : Vec Ideal S32x96 .f32)
    (b : Vec Ideal S1x32 .f32) (n : Fin 400) (o : Fin 32) : gcn v0 a w b (ix2 n o)
      = Spec.conv (fun c v => v0 (ix4 0 0 c v)) (fun v u => a (ix2 v u)) (fun o k => w (ix2 o k)) (fun o => b (ix2 0 o)) n o := by
  pointwise [gcn]
  rfl

/-- The gated node vectors at a node and a channel. -/
theorem gate_apply (v : Vec Ideal S400x32 .f32) (f : FVec Ideal S400x32 .f32) (n : Fin 400) (o : Fin 32) :
    gate v f (ix2 n o) = Spec.gate (v (ix2 n o)) (f (ix2 n o)) := by
  pointwise [gate]
  rfl

/-- The adjacency matrix at two nodes. -/
theorem adjOf_apply (p q : FVec Ideal S400x32 .f32) (i j : Fin 400) :
    adjOf p q (ix2 i j) = Spec.adj (fun n o => p (ix2 n o)) (fun n o => q (ix2 n o)) i j := by
  pointwise [adjOf]
  rfl

/-- The unit matrix at two nodes. -/
theorem eye_apply (i j : Fin 400) : eye (F := Ideal) (ix2 i j) = Spec.unit i j := by
  pointwise [eye]
  rw [cmpi_eq, select_ofBool]
  rfl

/-- The thresholds are those of the search on each row. -/
theorem thr_apply (a : FVec Ideal S400x400 .f32) (i : Fin 400) (n : ℕ) :
    thr a n (ix2 i 0) = Search.thr (mat a i) n := by
  induction n with
  | zero =>
    show rowMax a (ix2 i 0) = _
    pointwise []
    rfl
  | succ n ih =>
    show next a (thr a n) (ix2 i 0) = Search.next (mat a i) (Search.thr (mat a i) n)
    rw [← ih]
    pointwise [next, below]
    rfl

/-- The bit of an entry kept. -/
theorem keep_apply (a : FVec Ideal S400x400 .f32) (h0 : ∀ i j, 0 ≤ mat a i j) (i j : Fin 400) :
    keep a (thr a 19) (ix2 i j) = BitVec.ofBool (decide (Rank.place (mat a i) j < 20)) := by
  have h := Search.keep_iff (r := mat a i) (by norm_num) (h0 i) j
  rw [← thr_apply a i 19] at h
  generalize thr a 19 = t at h
  pointwise [keep]
  simp only [cmpi_slt, select_ofBool]
  rw [ori_andi_ofBool]
  congr 2
  exact propext h

/-- The entries kept plus the unit matrix. -/
theorem kept_apply (a : FVec Ideal S400x400 .f32) (h0 : ∀ i j, 0 ≤ mat a i j) (i j : Fin 400) :
    kept a (thr a 19) (ix2 i j) = Spec.kept (mat a) i j := by
  have hk := keep_apply a h0 i j
  generalize thr a 19 = t at hk ⊢
  pointwise [kept]
  rw [hk, eye_apply, select_ofBool]
  rfl

/-- The first result of a time step. -/
theorem res1_apply (a : FVec Ideal S400x400 .f32) (h0 : ∀ i j, 0 ≤ mat a i j) (i j : Fin 400) :
    res1 a (thr a 19) (ix2 i j) = Spec.first (mat a) i j := by
  have hk := fun j => kept_apply a h0 i j
  generalize thr a 19 = t at hk ⊢
  pointwise [res1, norm]
  simp only [hk]
  rfl

/-- The second result of a time step. -/
theorem flip_apply (a : FVec Ideal S400x400 .f32) (h0 : ∀ i j, 0 ≤ mat a i j) (i j : Fin 400) :
    flip (res1 a (thr a 19)) (ix2 i j) = Spec.second (mat a) i j := by
  have hk := res1_apply a h0
  generalize res1 a (thr a 19) = t at hk ⊢
  pointwise [flip]
  simp only [hk, eye_apply]
  rw [Spec.second, Spec.sum_add_unit]

/-- The first block stored, at two nodes. -/
theorem out1_apply (a : FVec Ideal S400x400 .f32) (h0 : ∀ i j, 0 ≤ mat a i j) (i j : Fin 400) :
    out1 a (ix4 0 0 i j) = Spec.first (mat a) i j := by
  rw [← res1_apply a h0]
  pointwise [out1]

/-- The second block stored, at two nodes. -/
theorem out2_apply (a : FVec Ideal S400x400 .f32) (h0 : ∀ i j, 0 ≤ mat a i j) (i j : Fin 400) :
    out2 a (ix4 0 0 i j) = Spec.second (mat a) i j := by
  rw [← flip_apply a h0]
  pointwise [out2]

end Cert.KernelIdeal.Step
-- ==== Proof.Stores.lean ====
module

public import proofs.«01_k».proof.Proof.StepValue
public import Idealize.ShloMosaic.Lib.Pipeline.ValueKit

@[expose] public section

/-! The two blocks a grid point leaves: six time steps stored one after the other, each what `Spec` says of the
point's blocks of the operands. -/

set_option maxRecDepth 16384

noncomputable section

namespace Cert.KernelIdeal.Step

open Idealize.ShloMosaic Cert.KernelIdeal Cert.KernelIdeal.Gen

section
variable {F : FTy → Type} [FloatOps F]
variable (x0 : Vec F S1x6x32x400 .f32) (x1 x2 : Vec F S400x400 .f32) (x3 x4 : Vec F S400x32 .f32)
  (x5 : Vec F S32x96 .f32) (x6 : Vec F S1x32 .f32) (x7 : Vec F S32x96 .f32) (x8 : Vec F S1x32 .f32)

/-- The adjacency matrix of the features `v`, at the point's other operands. -/
def adjAt (v : Vec F S1x1x32x400 .f32) : FVec F S400x400 .f32 :=
  adj v (View.ld x1 r0_1) (View.ld x2 r0_1) (View.ld x3 r0_4) (View.ld x4 r0_4) (View.ld x5 r0_2) (View.ld x6 r0_3)
    (View.ld x7 r0_2) (View.ld x8 r0_3)

/-- The six stores of the first result. -/
theorem stores1 : out0_9 x0 x1 x2 x3 x4 x5 x6 x7 x8 = View.canon
    [⟨r0_15, out1 (adjAt x1 x2 x3 x4 x5 x6 x7 x8 (View.ld x0 r0_14))⟩,
      ⟨r0_13, out1 (adjAt x1 x2 x3 x4 x5 x6 x7 x8 (View.ld x0 r0_12))⟩,
      ⟨r0_11, out1 (adjAt x1 x2 x3 x4 x5 x6 x7 x8 (View.ld x0 r0_10))⟩,
      ⟨r0_9, out1 (adjAt x1 x2 x3 x4 x5 x6 x7 x8 (View.ld x0 r0_8))⟩,
      ⟨r0_7, out1 (adjAt x1 x2 x3 x4 x5 x6 x7 x8 (View.ld x0 r0_6))⟩,
      ⟨r0_5, out1 (adjAt x1 x2 x3 x4 x5 x6 x7 x8 (View.ld x0 r0_0))⟩] := rfl

/-- The six stores of the second result. -/
theorem stores2 : out0_10 x0 x1 x2 x3 x4 x5 x6 x7 x8 = View.canon
    [⟨r0_15, out2 (adjAt x1 x2 x3 x4 x5 x6 x7 x8 (View.ld x0 r0_14))⟩,
      ⟨r0_13, out2 (adjAt x1 x2 x3 x4 x5 x6 x7 x8 (View.ld x0 r0_12))⟩,
      ⟨r0_11, out2 (adjAt x1 x2 x3 x4 x5 x6 x7 x8 (View.ld x0 r0_10))⟩,
      ⟨r0_9, out2 (adjAt x1 x2 x3 x4 x5 x6 x7 x8 (View.ld x0 r0_8))⟩,
      ⟨r0_7, out2 (adjAt x1 x2 x3 x4 x5 x6 x7 x8 (View.ld x0 r0_6))⟩,
      ⟨r0_5, out2 (adjAt x1 x2 x3 x4 x5 x6 x7 x8 (View.ld x0 r0_0))⟩] := rfl
end

variable (x0 : Vec Ideal S1x6x32x400 .f32) (x1 x2 : Vec Ideal S400x400 .f32) (x3 x4 : Vec Ideal S400x32 .f32)
  (x5 : Vec Ideal S32x96 .f32) (x6 : Vec Ideal S1x32 .f32) (x7 : Vec Ideal S32x96 .f32) (x8 : Vec Ideal S1x32 .f32)

/-- What `Spec` makes of the point's operands at the local time step `s`. -/
def graphAt (s : Fin 6) : Spec.Mat :=
  Spec.graph (fun o v => x0 (ix4 0 s o v)) (fun v u => x1 (ix2 v u)) (fun v u => x2 (ix2 v u))
    (fun n o => x3 (ix2 n o)) (fun n o => x4 (ix2 n o)) (fun o k => x5 (ix2 o k)) (fun o => x6 (ix2 0 o))
    (fun o k => x7 (ix2 o k)) (fun o => x8 (ix2 0 o))

/-- The adjacency matrix of the features read at the local time step `s`. -/
theorem mat_adjAt (v : Vec Ideal S1x1x32x400 .f32) (s : Fin 6) (hv : ∀ o n, v (ix4 0 0 o n) = x0 (ix4 0 s o n)) :
    mat (adjAt x1 x2 x3 x4 x5 x6 x7 x8 v) = graphAt x0 x1 x2 x3 x4 x5 x6 x7 x8 s := by
  funext i j
  rw [mat, adjAt, adj, adjOf_apply]
  simp only [gate_apply, gcn_apply, hv]
  have e1 : ∀ X : Vec Ideal S400x400 .f32, View.ld X r0_1 = X := fun X => View.ld_unit_lit _ X (by decide)
  have e2 : ∀ X : Vec Ideal S32x96 .f32, View.ld X r0_2 = X := fun X => View.ld_unit_lit _ X (by decide)
  have e3 : ∀ X : Vec Ideal S1x32 .f32, View.ld X r0_3 = X := fun X => View.ld_unit_lit _ X (by decide)
  have e4 : ∀ X : Vec Ideal S400x32 .f32, View.ld X r0_4 = X := fun X => View.ld_unit_lit _ X (by decide)
  rw [e1, e1, e2, e2, e3, e3, e4, e4]
  rfl

/-- A stored block of the first result, at an index: the one of the local time step `s`, for a whole block's index `y`. -/
theorem piece1 (v : Vec Ideal S1x1x32x400 .f32) (s : Fin 6) (hv : ∀ o n, v (ix4 0 0 o n) = x0 (ix4 0 s o n))
    (z : S1x1x400x400.Idx) (y : S1x6x400x400.Idx) (h1 : (y 1).val = s.val + (z 1).val) (h2 : (y 2).val = (z 2).val)
    (h3 : (y 3).val = (z 3).val) : out1 (adjAt x1 x2 x3 x4 x5 x6 x7 x8 v) z
      = Spec.first (graphAt x0 x1 x2 x3 x4 x5 x6 x7 x8 (y 1)) (y 2) (y 3) := by
  have hm := mat_adjAt x0 x1 x2 x3 x4 x5 x6 x7 x8 v s hv
  generalize adjAt x1 x2 x3 x4 x5 x6 x7 x8 v = a at hm ⊢
  have e1 : y 1 = s := Fin.ext (by have : (z 1).val < 1 := (z 1).isLt; omega)
  have e2 : y 2 = z 2 := Fin.ext h2
  have e3 : y 3 = z 3 := Fin.ext h3
  rw [e1, e2, e3]
  have h0 : ∀ i j, 0 ≤ graphAt x0 x1 x2 x3 x4 x5 x6 x7 x8 s i j := Spec.adj_nonneg _ _
  clear hv h1 h2 h3 e1 e2 e3
  generalize graphAt x0 x1 x2 x3 x4 x5 x6 x7 x8 s = g at hm h0 ⊢
  subst hm
  idx_vars z
  rw [Subsingleton.elim z0 0, Subsingleton.elim z1 0]
  exact out1_apply a h0 _ _

/-- The block of the first result a point leaves, at an index. -/
theorem block1 (y : S1x6x400x400.Idx) : out0_9 x0 x1 x2 x3 x4 x5 x6 x7 x8 y
    = Spec.first (graphAt x0 x1 x2 x3 x4 x5 x6 x7 x8 (y 1)) (y 2) (y 3) := by
  rw [stores1]
  canon_tiles x h
  · exact piece1 x0 x1 x2 x3 x4 x5 x6 x7 x8 _ 5 (fun o n => View.ld_unit_apply_of x0 _ _ _ _ _ fun a => by fin_cases a <;> simp) x y h1 h2 h3
  · exact piece1 x0 x1 x2 x3 x4 x5 x6 x7 x8 _ 4 (fun o n => View.ld_unit_apply_of x0 _ _ _ _ _ fun a => by fin_cases a <;> simp) x y h1 h2 h3
  · exact piece1 x0 x1 x2 x3 x4 x5 x6 x7 x8 _ 3 (fun o n => View.ld_unit_apply_of x0 _ _ _ _ _ fun a => by fin_cases a <;> simp) x y h1 h2 h3
  · exact piece1 x0 x1 x2 x3 x4 x5 x6 x7 x8 _ 2 (fun o n => View.ld_unit_apply_of x0 _ _ _ _ _ fun a => by fin_cases a <;> simp) x y h1 h2 h3
  · exact piece1 x0 x1 x2 x3 x4 x5 x6 x7 x8 _ 1 (fun o n => View.ld_unit_apply_of x0 _ _ _ _ _ fun a => by fin_cases a <;> simp) x y h1 h2 h3
  · exact piece1 x0 x1 x2 x3 x4 x5 x6 x7 x8 _ 0 (fun o n => View.ld_unit_apply_of x0 _ _ _ _ _ fun a => by fin_cases a <;> simp) x y (by simpa using h1) h2 h3

/-- A stored block of the second result, at an index: the one of the local time step `s`, for a whole block's index `y`. -/
theorem piece2 (v : Vec Ideal S1x1x32x400 .f32) (s : Fin 6) (hv : ∀ o n, v (ix4 0 0 o n) = x0 (ix4 0 s o n))
    (z : S1x1x400x400.Idx) (y : S1x6x400x400.Idx) (h1 : (y 1).val = s.val + (z 1).val) (h2 : (y 2).val = (z 2).val)
    (h3 : (y 3).val = (z 3).val) : out2 (adjAt x1 x2 x3 x4 x5 x6 x7 x8 v) z
      = Spec.second (graphAt x0 x1 x2 x3 x4 x5 x6 x7 x8 (y 1)) (y 2) (y 3) := by
  have hm := mat_adjAt x0 x1 x2 x3 x4 x5 x6 x7 x8 v s hv
  generalize adjAt x1 x2 x3 x4 x5 x6 x7 x8 v = a at hm ⊢
  have e1 : y 1 = s := Fin.ext (by have : (z 1).val < 1 := (z 1).isLt; omega)
  have e2 : y 2 = z 2 := Fin.ext h2
  have e3 : y 3 = z 3 := Fin.ext h3
  rw [e1, e2, e3]
  have h0 : ∀ i j, 0 ≤ graphAt x0 x1 x2 x3 x4 x5 x6 x7 x8 s i j := Spec.adj_nonneg _ _
  clear hv h1 h2 h3 e1 e2 e3
  generalize graphAt x0 x1 x2 x3 x4 x5 x6 x7 x8 s = g at hm h0 ⊢
  subst hm
  idx_vars z
  rw [Subsingleton.elim z0 0, Subsingleton.elim z1 0]
  exact out2_apply a h0 _ _

/-- The block of the second result a point leaves, at an index. -/
theorem block2 (y : S1x6x400x400.Idx) : out0_10 x0 x1 x2 x3 x4 x5 x6 x7 x8 y
    = Spec.second (graphAt x0 x1 x2 x3 x4 x5 x6 x7 x8 (y 1)) (y 2) (y 3) := by
  rw [stores2]
  canon_tiles x h
  · exact piece2 x0 x1 x2 x3 x4 x5 x6 x7 x8 _ 5 (fun o n => View.ld_unit_apply_of x0 _ _ _ _ _ fun a => by fin_cases a <;> simp) x y h1 h2 h3
  · exact piece2 x0 x1 x2 x3 x4 x5 x6 x7 x8 _ 4 (fun o n => View.ld_unit_apply_of x0 _ _ _ _ _ fun a => by fin_cases a <;> simp) x y h1 h2 h3
  · exact piece2 x0 x1 x2 x3 x4 x5 x6 x7 x8 _ 3 (fun o n => View.ld_unit_apply_of x0 _ _ _ _ _ fun a => by fin_cases a <;> simp) x y h1 h2 h3
  · exact piece2 x0 x1 x2 x3 x4 x5 x6 x7 x8 _ 2 (fun o n => View.ld_unit_apply_of x0 _ _ _ _ _ fun a => by fin_cases a <;> simp) x y h1 h2 h3
  · exact piece2 x0 x1 x2 x3 x4 x5 x6 x7 x8 _ 1 (fun o n => View.ld_unit_apply_of x0 _ _ _ _ _ fun a => by fin_cases a <;> simp) x y h1 h2 h3
  · exact piece2 x0 x1 x2 x3 x4 x5 x6 x7 x8 _ 0 (fun o n => View.ld_unit_apply_of x0 _ _ _ _ _ fun a => by fin_cases a <;> simp) x y (by simpa using h1) h2 h3

end Cert.KernelIdeal.Step
-- ==== Proof.Array.lean ====
module

public import proofs.«01_k».proof.Proof.Stores
public import proofs.«01_k».proof.Proof.Gen.KernelIdeal.Value

@[expose] public section

/-! The two result arrays the kernel leaves: at batch entry `b` and time step `l`, what `Spec` says of the operands
the grid finds. -/

set_option maxRecDepth 16384

noncomputable section

namespace Cert.KernelIdeal.Step

open Idealize.ShloMosaic Idealize.ShloMosaic.TcCoe Idealize.SL.Sem Cert.KernelIdeal Cert.KernelIdeal.Gen

/-- The blocks a grid point stands on: the results' are the features' (batch entry and half of the time steps), the
other operands are whole. -/
theorem idx : ∀ t : Fin cfg0.N,
    win0_0.index t = ![win0_9.index t 0, win0_9.index t 1, 0, 0] ∧ win0_9.index t 2 = 0 ∧ win0_9.index t 3 = 0
    ∧ win0_10.index t = win0_9.index t
    ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] :=
  (by decide +kernel : ∀ t : Fin grid0.N, _)

variable (m : (ℓ : Loc nD τ sig) → Buf (Elt Ideal) ℓ) (c : Dev nD)

/-- The adjacency matrix of batch entry `b` and time step `l`, from the operands the grid finds. -/
def graphOf (b : Fin 8) (l : Fin 12) : Spec.Mat :=
  Spec.graph (fun o v => V m c main_v62 (ix4 b l o v)) (fun v u => V m c main_v49 (ix2 v u))
    (fun v u => V m c main_v59 (ix2 v u)) (fun n o => V m c main_v14 (ix2 n o)) (fun n o => V m c main_v29 (ix2 n o))
    (fun o k => V m c main_arg8 (ix2 o k)) (fun o => V m c main_v60 (ix2 0 o))
    (fun o k => V m c main_arg10 (ix2 o k)) (fun o => V m c main_v61 (ix2 0 o))

/-- The features' block at a local time step is the array's at the time step. -/
theorem iblk0 (t : Fin cfg0.N) (s : Fin 6) (b : Fin 8) (l : Fin 12) (hb : b.val = win0_9.index t 0)
    (hl : l.val = win0_9.index t 1 * 6 + s.val) (o : Fin 32) (v : Fin 400) :
    iblk m c 0 t (ix4 0 s o v) = V m c main_v62 (ix4 b l o v) := by
  have e0 := (idx t).1
  blk_simp [iblk]
  congr 1
  blk_ext [e0]

/-- Operand 1 is whole at every grid point. -/
theorem iblk1 (t : Fin cfg0.N) : (iblk m c 1 t : Vec Ideal S400x400 .f32) = V m c main_v49 := by
  have e := (idx t).2.2.2.2.1
  funext y
  blk_simp [iblk]
  congr 1
  blk_ext [e]

/-- Operand 2 is whole at every grid point. -/
theorem iblk2 (t : Fin cfg0.N) : (iblk m c 2 t : Vec Ideal S400x400 .f32) = V m c main_v59 := by
  have e := (idx t).2.2.2.2.2.1
  funext y
  blk_simp [iblk]
  congr 1
  blk_ext [e]

/-- Operand 3 is whole at every grid point. -/
theorem iblk3 (t : Fin cfg0.N) : (iblk m c 3 t : Vec Ideal S400x32 .f32) = V m c main_v14 := by
  have e := (idx t).2.2.2.2.2.2.1
  funext y
  blk_simp [iblk]
  congr 1
  blk_ext [e]

/-- Operand 4 is whole at every grid point. -/
theorem iblk4 (t : Fin cfg0.N) : (iblk m c 4 t : Vec Ideal S400x32 .f32) = V m c main_v29 := by
  have e := (idx t).2.2.2.2.2.2.2.1
  funext y
  blk_simp [iblk]
  congr 1
  blk_ext [e]

/-- Operand 5 is whole at every grid point. -/
theorem iblk5 (t : Fin cfg0.N) : (iblk m c 5 t : Vec Ideal S32x96 .f32) = V m c main_arg8 := by
  have e := (idx t).2.2.2.2.2.2.2.2.1
  funext y
  blk_simp [iblk]
  congr 1
  blk_ext [e]

/-- Operand 6 is whole at every grid point. -/
theorem iblk6 (t : Fin cfg0.N) : (iblk m c 6 t : Vec Ideal S1x32 .f32) = V m c main_v60 := by
  have e := (idx t).2.2.2.2.2.2.2.2.2.1
  funext y
  blk_simp [iblk]
  congr 1
  blk_ext [e]

/-- Operand 7 is whole at every grid point. -/
theorem iblk7 (t : Fin cfg0.N) : (iblk m c 7 t : Vec Ideal S32x96 .f32) = V m c main_arg10 := by
  have e := (idx t).2.2.2.2.2.2.2.2.2.2.1
  funext y
  blk_simp [iblk]
  congr 1
  blk_ext [e]

/-- Operand 8 is whole at every grid point. -/
theorem iblk8 (t : Fin cfg0.N) : (iblk m c 8 t : Vec Ideal S1x32 .f32) = V m c main_v61 := by
  have e := (idx t).2.2.2.2.2.2.2.2.2.2.2
  funext y
  blk_simp [iblk]
  congr 1
  blk_ext [e]

/-- The operands of a grid point's local time step are those of its time step. -/
theorem graphAt_eq (t : Fin cfg0.N) (s : Fin 6) (b : Fin 8) (l : Fin 12) (hb : b.val = win0_9.index t 0)
    (hl : l.val = win0_9.index t 1 * 6 + s.val) :
    graphAt (iblk m c 0 t) (iblk m c 1 t) (iblk m c 2 t) (iblk m c 3 t) (iblk m c 4 t) (iblk m c 5 t) (iblk m c 6 t)
      (iblk m c 7 t) (iblk m c 8 t) s = graphOf m c b l := by
  rw [iblk1, iblk2, iblk3, iblk4, iblk5, iblk6, iblk7, iblk8, graphAt, graphOf]
  simp only [iblk0 m c t s b l hb hl]

/-- The first result array. -/
theorem array1 : (dats m 0 c).arrAt 9 cfg0.N
    = fun i : S8x12x400x400.Idx => Spec.first (graphOf m c (i 0) (i 1)) (i 2) (i 3) := by
  refine (dats m 0 c).arrAt_eq_of_covers 9 _ (by decide +kernel) fun t hf y => ?_
  blk_simp
  rw [after0_9, block1]
  obtain ⟨-, h2, h3, -⟩ := idx t
  have e2 : (win0_9.blk t).view.emb y 2 = y 2 := Fin.ext (by blk_simp; omega)
  have e3 : (win0_9.blk t).view.emb y 3 = y 3 := Fin.ext (by blk_simp; omega)
  have hy : (y 0).val < 1 := (y 0).isLt
  rw [e2, e3, graphAt_eq m c t (y 1) ((win0_9.blk t).view.emb y 0) ((win0_9.blk t).view.emb y 1)
    (by blk_simp) (by blk_simp)]

/-- The second result array. -/
theorem array2 : (dats m 0 c).arrAt 10 cfg0.N
    = fun i : S8x12x400x400.Idx => Spec.second (graphOf m c (i 0) (i 1)) (i 2) (i 3) := by
  refine (dats m 0 c).arrAt_eq_of_covers 10 _ (by decide +kernel) fun t hf y => ?_
  blk_simp
  rw [after0_10, block2]
  obtain ⟨-, h2, h3, h9, -⟩ := idx t
  have e2 : (win0_10.blk t).view.emb y 2 = y 2 := Fin.ext (by blk_simp [h9]; omega)
  have e3 : (win0_10.blk t).view.emb y 3 = y 3 := Fin.ext (by blk_simp [h9]; omega)
  have hy : (y 0).val < 1 := (y 0).isLt
  rw [e2, e3, graphAt_eq m c t (y 1) ((win0_10.blk t).view.emb y 0) ((win0_10.blk t).view.emb y 1)
    (by blk_simp [h9]) (by blk_simp [h9])]
end Cert.KernelIdeal.Step
-- ==== Proof.Host.lean ====
module

public import proofs.«01_k».proof.Proof.Gen.KernelIdeal.Frame
public import proofs.«01_k».proof.Proof.Gen.ReferenceIdeal.Run
public import Idealize.ShloMosaic.Lib.Pipeline.ValueKit
public import Idealize.ShloMosaic.Lib.Pointwise

@[expose] public section

/-! The node vectors and the two propagation matrices as the kernel's host part leaves them for its grid:
they are the reference's own intermediate arrays, at the same arguments. -/

set_option maxRecDepth 16384

noncomputable section

namespace Cert.Host

open Idealize.ShloMosaic Idealize.ShloMosaic.StableHlo Idealize.ShloMosaic.TcCoe Idealize.SL.Sem
open Cert.KernelIdeal (nD τ)

variable (m : (ℓ : Loc Cert.KernelIdeal.nD Cert.KernelIdeal.τ Cert.KernelIdeal.sig) → Buf (Elt Ideal) ℓ) (c : Dev Cert.KernelIdeal.nD)
variable (L : Valuation Cert.ReferenceIdeal.τ Cert.ReferenceIdeal.sig (Elt Ideal))

/-- The reference's arguments `L` are the kernel's arguments on device `c`. -/
structure Agree : Prop where
  arg0 : L (Proc.devRef .tc Cert.ReferenceIdeal.main_arg0) = m ((c : Thread nD τ).loc Cert.KernelIdeal.main_arg0)
  arg1 : L (Proc.devRef .tc Cert.ReferenceIdeal.main_arg1) = m ((c : Thread nD τ).loc Cert.KernelIdeal.main_arg1)
  arg2 : L (Proc.devRef .tc Cert.ReferenceIdeal.main_arg2) = m ((c : Thread nD τ).loc Cert.KernelIdeal.main_arg2)
  arg3 : L (Proc.devRef .tc Cert.ReferenceIdeal.main_arg3) = m ((c : Thread nD τ).loc Cert.KernelIdeal.main_arg3)
  arg4 : L (Proc.devRef .tc Cert.ReferenceIdeal.main_arg4) = m ((c : Thread nD τ).loc Cert.KernelIdeal.main_arg4)
  arg5 : L (Proc.devRef .tc Cert.ReferenceIdeal.main_arg5) = m ((c : Thread nD τ).loc Cert.KernelIdeal.main_arg5)
  arg6 : L (Proc.devRef .tc Cert.ReferenceIdeal.main_arg6) = m ((c : Thread nD τ).loc Cert.KernelIdeal.main_arg6)
  arg7 : L (Proc.devRef .tc Cert.ReferenceIdeal.main_arg7) = m ((c : Thread nD τ).loc Cert.KernelIdeal.main_arg7)
  arg8 : L (Proc.devRef .tc Cert.ReferenceIdeal.main_arg8) = m ((c : Thread nD τ).loc Cert.KernelIdeal.main_arg8)
  arg9 : L (Proc.devRef .tc Cert.ReferenceIdeal.main_arg9) = m ((c : Thread nD τ).loc Cert.KernelIdeal.main_arg9)
  arg10 : L (Proc.devRef .tc Cert.ReferenceIdeal.main_arg10) = m ((c : Thread nD τ).loc Cert.KernelIdeal.main_arg10)
  arg11 : L (Proc.devRef .tc Cert.ReferenceIdeal.main_arg11) = m ((c : Thread nD τ).loc Cert.KernelIdeal.main_arg11)

variable {m c L} (h : Agree m c L)
include h

/-- The first node vectors. -/
theorem nv1 : Cert.KernelIdeal.Gen.V m c Cert.KernelIdeal.main_v14 = Cert.ReferenceIdeal.Value.res_main_v14 L := by
  entry_read
  unfold Cert.ReferenceIdeal.Value.res_main_v14
  rw [h.arg1, h.arg2, h.arg4, h.arg5]
  rfl

/-- The second node vectors. -/
theorem nv2 : Cert.KernelIdeal.Gen.V m c Cert.KernelIdeal.main_v29 = Cert.ReferenceIdeal.Value.res_main_v29 L := by
  entry_read
  unfold Cert.ReferenceIdeal.Value.res_main_v29
  rw [h.arg1, h.arg3, h.arg6, h.arg7]
  rfl

/-- The first propagation matrix. -/
theorem a0 : Cert.KernelIdeal.Gen.V m c Cert.KernelIdeal.main_v49 = Cert.ReferenceIdeal.Value.res_main_v49 L := by
  entry_read
  unfold Cert.ReferenceIdeal.Value.res_main_v49 Cert.ReferenceIdeal.Value.res_main_v41 Cert.ReferenceIdeal.Value.res_main_v40 Cert.ReferenceIdeal.Value.res_main_v34 Cert.ReferenceIdeal.Value.res_main_v14 Cert.ReferenceIdeal.Value.res_main_v29
  rw [h.arg1, h.arg2, h.arg3, h.arg4, h.arg5, h.arg6, h.arg7]
  rfl

/-- The second propagation matrix. -/
theorem a1 : Cert.KernelIdeal.Gen.V m c Cert.KernelIdeal.main_v59 = Cert.ReferenceIdeal.Value.res_main_v59 L := by
  entry_read
  unfold Cert.ReferenceIdeal.Value.res_main_v59 Cert.ReferenceIdeal.Value.res_main_v51 Cert.ReferenceIdeal.Value.res_main_v50 Cert.ReferenceIdeal.Value.res_main_v40 Cert.ReferenceIdeal.Value.res_main_v34 Cert.ReferenceIdeal.Value.res_main_v14 Cert.ReferenceIdeal.Value.res_main_v29
  rw [h.arg1, h.arg2, h.arg3, h.arg4, h.arg5, h.arg6, h.arg7]
  rfl

/-- The features, their time steps before the channels. -/
theorem feat (b : Fin 8) (l : Fin 12) (o : Fin 32) (v : Fin 400) :
    Cert.KernelIdeal.Gen.V m c Cert.KernelIdeal.main_v62 (ix4 b l o v)
      = L (Proc.devRef .tc Cert.ReferenceIdeal.main_arg0) (ix4 b o v l) := by
  have e : Cert.KernelIdeal.Gen.V m c Cert.KernelIdeal.main_v62 = transpose Cert.KernelIdeal.S8x12x32x400 [0, 3, 1, 2]
      (L (Proc.devRef .tc Cert.ReferenceIdeal.main_arg0)) Cert.KernelIdeal.Gen.transposes_S8x32x400x12_S8x12x32x400_0_3_1_2 := by
    rw [h.arg0]
    entry_read
    rfl
  rw [e]
  pointwise []

/-- The first bias, as a row. -/
theorem bias1 (o : Fin 32) : Cert.KernelIdeal.Gen.V m c Cert.KernelIdeal.main_v60 (ix2 0 o)
      = L (Proc.devRef .tc Cert.ReferenceIdeal.main_arg9) (ix1 o) := by
  have e : Cert.KernelIdeal.Gen.V m c Cert.KernelIdeal.main_v60 = shapeCast Cert.KernelIdeal.S1x32
      (L (Proc.devRef .tc Cert.ReferenceIdeal.main_arg9)) Cert.KernelIdeal.Gen.shapeCasts_S32_S1x32 := by
    rw [h.arg9]
    entry_read
    rfl
  rw [e]
  pointwise []

/-- The second bias, as a row. -/
theorem bias2 (o : Fin 32) : Cert.KernelIdeal.Gen.V m c Cert.KernelIdeal.main_v61 (ix2 0 o)
      = L (Proc.devRef .tc Cert.ReferenceIdeal.main_arg11) (ix1 o) := by
  have e : Cert.KernelIdeal.Gen.V m c Cert.KernelIdeal.main_v61 = shapeCast Cert.KernelIdeal.S1x32
      (L (Proc.devRef .tc Cert.ReferenceIdeal.main_arg11)) Cert.KernelIdeal.Gen.shapeCasts_S32_S1x32 := by
    rw [h.arg11]
    entry_read
    rfl
  rw [e]
  pointwise []

end Cert.Host
-- ==== Proof.RefGraph.lean ====
module

public import proofs.«01_k».proof.Proof.Gen.ReferenceIdeal.Run
public import proofs.«01_k».proof.Proof.Spec
public import Idealize.ShloMosaic.Lib.Pointwise

@[expose] public section

/-! The reference's adjacency matrices read at coordinates: they are what `Spec` says. -/

set_option maxRecDepth 16384

noncomputable section

namespace Cert.ReferenceIdeal.Value

open Idealize.ShloMosaic Idealize.ShloMosaic.StableHlo Cert.ReferenceIdeal Cert.ReferenceIdeal.Gen

variable (L : Valuation τ sig (Elt Ideal))

/-- The features of batch entry `b` and time step `l`. -/
abbrev feat (b : Fin 8) (l : Fin 12) (o : Fin 32) (v : Fin 400) : EReal := L (Proc.devRef .tc main_arg0) (ix4 b o v l)

/-- The first propagation matrix. -/
abbrev prop1 : Spec.Mat := fun v u => res_main_v49 L (ix2 v u)

/-- The second propagation matrix. -/
abbrev prop2 : Spec.Mat := fun v u => res_main_v59 L (ix2 v u)

/-- The features propagated once. -/
theorem v61_apply (b : Fin 8) (o : Fin 32) (n : Fin 400) (l : Fin 12) : res_main_v61 L (ix4 b o n l)
    = ∑ v, feat L b l o v * prop1 L v n := by
  pointwise [res_main_v61]
  exact Finset.sum_congr (M := EReal) rfl fun v _ => EReal.mul_comm _ _

/-- The gated node vectors. -/
theorem v87_apply (b : Fin 8) (l : Fin 12) (n : Fin 400) (o : Fin 32) : res_main_v87 L (ix4 b l n o)
    = Spec.gate (res_main_v14 L (ix2 n o)) (Spec.conv (feat L b l)
      (prop1 L) (fun o k => L (Proc.devRef .tc main_arg8) (ix2 o k))
      (fun o => L (Proc.devRef .tc main_arg9) (ix1 o)) n o) := by
  pointwise [res_main_v87]
  unfold Spec.gate Spec.conv
  refine congrArg Ideal.tanh (congrArg _ (congrArg _ (congrArg (· + _) (Finset.sum_congr rfl fun k _ => ?_))))
  rw [mul_comm]
  congr 1
  by_cases h1 : k.val < 32
  · rw [dif_pos h1, dif_pos h1]
  rw [dif_neg h1, dif_neg h1]
  by_cases h2 : k.val - 32 < 32
  · rw [dif_pos h2, dif_pos h2]
    exact v61_apply L b _ n l
  rw [dif_neg h2, dif_neg h2]
  refine Finset.sum_congr (M := EReal) rfl fun v _ => ?_
  rw [v61_apply]
  exact EReal.mul_comm _ _

/-- The features propagated once. -/
theorem v72_apply (b : Fin 8) (o : Fin 32) (n : Fin 400) (l : Fin 12) : res_main_v72 L (ix4 b o n l)
    = ∑ v, feat L b l o v * prop2 L v n := by
  pointwise [res_main_v72]
  exact Finset.sum_congr (M := EReal) rfl fun v _ => EReal.mul_comm _ _

/-- The gated node vectors. -/
theorem v93_apply (b : Fin 8) (l : Fin 12) (n : Fin 400) (o : Fin 32) : res_main_v93 L (ix4 b l n o)
    = Spec.gate (res_main_v29 L (ix2 n o)) (Spec.conv (feat L b l)
      (prop2 L) (fun o k => L (Proc.devRef .tc main_arg10) (ix2 o k))
      (fun o => L (Proc.devRef .tc main_arg11) (ix1 o)) n o) := by
  pointwise [res_main_v93]
  unfold Spec.gate Spec.conv
  refine congrArg Ideal.tanh (congrArg _ (congrArg _ (congrArg (· + _) (Finset.sum_congr rfl fun k _ => ?_))))
  rw [mul_comm]
  congr 1
  by_cases h1 : k.val < 32
  · rw [dif_pos h1, dif_pos h1]
  rw [dif_neg h1, dif_neg h1]
  by_cases h2 : k.val - 32 < 32
  · rw [dif_pos h2, dif_pos h2]
    exact v72_apply L b _ n l
  rw [dif_neg h2, dif_neg h2]
  refine Finset.sum_congr (M := EReal) rfl fun v _ => ?_
  rw [v72_apply]
  exact EReal.mul_comm _ _

/-- The reference's adjacency matrix of batch entry `b` and time step `l`. -/
def graphOf (b : Fin 8) (l : Fin 12) : Spec.Mat :=
  Spec.graph (feat L b l) (prop1 L)
    (prop2 L) (fun n o => res_main_v14 L (ix2 n o)) (fun n o => res_main_v29 L (ix2 n o))
    (fun o k => L (Proc.devRef .tc main_arg8) (ix2 o k)) (fun o => L (Proc.devRef .tc main_arg9) (ix1 o))
    (fun o k => L (Proc.devRef .tc main_arg10) (ix2 o k)) (fun o => L (Proc.devRef .tc main_arg11) (ix1 o))

/-- The adjacency matrices. -/
theorem v102_apply (b : Fin 8) (l : Fin 12) (i j : Fin 400) : res_main_v102 L (ix4 b l i j) = graphOf L b l i j := by
  pointwise [res_main_v102]
  simp only [v87_apply, v93_apply]
  rfl

end Cert.ReferenceIdeal.Value
-- ==== Proof.RefMask.lean ====
module

public import proofs.«01_k».proof.Proof.RefGraph
public import proofs.«01_k».proof.Proof.Rank
public import Idealize.ShloMosaic.Lib.Routing.OpsSet
public import Idealize.ShloMosaic.Lib.Routing.OpsPair

@[expose] public section

/-! The reference's selection: the twenty columns its sort lists first in every row, and the mask that holds one
there and zero elsewhere. -/

set_option maxRecDepth 16384

noncomputable section

namespace Cert.ReferenceIdeal.Value

open Idealize.ShloMosaic Idealize.ShloMosaic.StableHlo Cert.ReferenceIdeal Cert.ReferenceIdeal.Gen

/-- An update of the mask lands at the cell its four index words name. -/
theorem lands (k : S8x12x400x20.Idx) (idx : IVec S8x12x400x20x4 32) (ι : S8x12x400x400.Idx) :
    scatter_S8x12x400x400_S8x12x400x20x4_S8x12x400x20_n_0123_0123_4.resultIdx? k idx = some ι
      ↔ ∀ a : Fin 4, (idx (ix5 (k 0) (k 1) (k 2) (k 3) a)).toInt = ((ι a).val : Int) := by
  rw [Routing.resultIdx?_eq_some]
  refine forall_congr' fun (a : Fin 4) => ?_
  suffices h : scatter_S8x12x400x400_S8x12x400x20x4_S8x12x400x20_n_0123_0123_4.start k idx a
      + (scatter_S8x12x400x400_S8x12x400x20x4_S8x12x400x20_n_0123_0123_4.window k a : Int)
      = (idx (ix5 (k 0) (k 1) (k 2) (k 3) a)).toInt by rw [h]
  unfold ScatterDims.start ScatterDims.window
  rw [dif_pos (by fin_cases a <;> decide), dif_neg (by fin_cases a <;> decide)]
  simp only [Nat.cast_zero, add_zero]
  congr 2
  funext b
  fin_cases a <;> fin_cases b <;> rfl

/-- A number below 400 read off its word. -/
theorem toInt_word {n : ℕ} (h : n < 400) : (BitVec.ofNat 32 n).toInt = n := by
  rw [BitVec.toInt_eq_toNat_cond, BitVec.toNat_ofNat, Nat.mod_eq_of_lt (by omega), if_pos (by omega)]

/-- The wrap of a negative index leaves a number below 400. -/
theorem wrap_word (n : ℕ) (h : n < 400) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

/-- The order of the reference's sort: larger entries first. -/
theorem gt_apply (x y : EReal) : (FloatOps.cmpfTotal (F := Ideal) (φ := .f32) .gt x y == 1#1) = decide (y < x) := by
  by_cases h : y < x
  · simp [FloatOps.cmpfTotal, Ideal.cmpTotal, Ideal.cmp, CmpDirection.ordered, h]
  · simp [FloatOps.cmpfTotal, Ideal.cmpTotal, Ideal.cmp, CmpDirection.ordered, h]

/-- The column at position `q` of a row's sort. -/
def col (r : Fin 400 → EReal) (q : Fin 20) : Fin 400 :=
  sortedFrom (fun k k' => decide (r k' < r k)) (q.castLE (by norm_num))

/-- The index word of a top-`k` selection at `j`, `J` being `j` in the operand's shape: the axis coordinate the sort
puts at `J`. -/
theorem topK_snd {α : Type} {s t : Shape} (d : ℕ) (hd : d < s.rank) (gt : α → α → BitVec 1) (x : s.Idx → α)
    (h : s.Slices (fun _ => 0) t) (j : t.Idx) (J : s.Idx) (hJ : ∀ a, (J a).val = (j (a.cast h.1.symm)).val) :
    (Host.topK t d gt x h).2 j = BitVec.ofNat 32 (J.along ⟨d, hd⟩ (sortedFrom (fun k k' =>
      gt (x (J.along ⟨d, hd⟩ k)) (x (J.along ⟨d, hd⟩ k')) == 1#1) (J ⟨d, hd⟩)) ⟨d, hd⟩).val := by
  unfold Host.topK Host.sort2 extractStridedSlice
  simp only [dif_pos hd]
  have e : (fun a => (⟨0 + (j (a.cast h.1.symm)).val,
      Nat.lt_of_lt_of_le (Nat.add_lt_add_left (j _).isLt _) (h.2 a)⟩ : Fin (s.size a))) = J :=
    funext fun a => Fin.ext ((Nat.zero_add _).trans (hJ a).symm)
  subst e
  rfl

/-- The index word at position `q` of row `i`, for four axes of any extents. -/
theorem topK_row {A B C N K : ℕ} (hK : K ≤ N) (x : FVec Ideal ⟨4, ![A, B, C, N]⟩ .f32)
    (h : (⟨4, ![A, B, C, N]⟩ : Shape).Slices (fun _ => 0) ⟨4, ![A, B, C, K]⟩)
    (b : Fin A) (l : Fin B) (i : Fin C) (q : Fin K) :
    (Host.topK ⟨4, ![A, B, C, K]⟩ 3 (FloatOps.cmpfTotal .gt) x h).2 (ix4 b l i q)
      = BitVec.ofNat 32 (sortedFrom (fun k k' => decide (x (ix4 b l i k') < x (ix4 b l i k))) (q.castLE hK)).val := by
  have ha : ∀ k : Fin N, Shape.Idx.along (ix4 b l i (q.castLE hK) : (⟨4, ![A, B, C, N]⟩ : Shape).Idx) (3 : Fin 4) k
      = ix4 b l i k := fun k => by
    funext a
    fin_cases a <;> rfl
  have hf : (fun k k' : Fin N => FloatOps.cmpfTotal (F := Ideal) (φ := .f32) .gt
      (x (Shape.Idx.along (ix4 b l i (q.castLE hK) : (⟨4, ![A, B, C, N]⟩ : Shape).Idx) (3 : Fin 4) k))
      (x (Shape.Idx.along (ix4 b l i (q.castLE hK) : (⟨4, ![A, B, C, N]⟩ : Shape).Idx) (3 : Fin 4) k')) == 1#1)
      = fun k k' => decide (x (ix4 b l i k') < x (ix4 b l i k)) := by
    funext k k'
    rw [ha, ha, gt_apply]
  refine (topK_snd 3 (by decide : 3 < 4) _ x _ _ (ix4 b l i (q.castLE hK)) (fun a => by fin_cases a <;> rfl)).trans ?_
  refine congrArg (fun f : Fin N → Fin N → Bool => BitVec.ofNat 32 (Shape.Idx.along
    (ix4 b l i (q.castLE hK) : (⟨4, ![A, B, C, N]⟩ : Shape).Idx) (3 : Fin 4) (sortedFrom f (q.castLE hK)) (3 : Fin 4)).val) hf
    |>.trans ?_
  exact congrArg (fun w : (⟨4, ![A, B, C, N]⟩ : Shape).Idx => BitVec.ofNat 32 (w (3 : Fin 4)).val) (ha _)

/-- The index word at position `q` of row `i`. -/
theorem topK_apply (x : FVec Ideal S8x12x400x400 .f32) (b : Fin 8) (l : Fin 12) (i : Fin 400) (q : Fin 20) :
    (Host.topK S8x12x400x20 3 (FloatOps.cmpfTotal .gt) x sliceFits_S8x12x400x400_S8x12x400x20).2 (ix4 b l i q)
      = BitVec.ofNat 32 (col (fun j => x (ix4 b l i j)) q).val :=
  topK_row _ x _ b l i q

/-- The mask of index words `P` that name, for every row, the columns its sort lists first: one at the columns whose
place in their row is among the first twenty, zero elsewhere. -/
theorem mask_apply (r : Fin 8 → Fin 12 → Spec.Mat) (P : IVec S8x12x400x20x4 32) (z u : EReal)
    (Z : FVec Ideal S8x12x400x400 .f32) (U : FVec Ideal S8x12x400x20 .f32)
    (hZ : ∀ i, Z i = z) (hU : ∀ i, U i = u)
    (h0 : ∀ b l i q, P (ix5 b l i q 0) = BitVec.ofNat 32 b.val)
    (h1 : ∀ b l i q, P (ix5 b l i q 1) = BitVec.ofNat 32 l.val)
    (h2 : ∀ b l i q, P (ix5 b l i q 2) = BitVec.ofNat 32 i.val)
    (h3 : ∀ b l i q, P (ix5 b l i q 3) = BitVec.ofNat 32 (col (r b l i) q).val)
    (b : Fin 8) (l : Fin 12) (i j : Fin 400) :
    Host.scatter scatter_S8x12x400x400_S8x12x400x20x4_S8x12x400x20_n_0123_0123_4 (fun _ b => b) Z P U (ix4 b l i j)
      = if Rank.place (r b l i) j < 20 then u else z := by
  have hl : ∀ (b' : Fin 8) (l' : Fin 12) (i' : Fin 400) (q : Fin 20),
      scatter_S8x12x400x400_S8x12x400x20x4_S8x12x400x20_n_0123_0123_4.resultIdx? (ix4 b' l' i' q) P = some (ix4 b l i j)
        ↔ b' = b ∧ l' = l ∧ i' = i ∧ col (r b' l' i') q = j := by
    intro b' l' i' q
    rw [lands]
    have e0 := h0 b' l' i' q
    have e1 := h1 b' l' i' q
    have e2 := h2 b' l' i' q
    have e3 := h3 b' l' i' q
    have t0 := toInt_word (show b'.val < 400 by omega)
    have t1 := toInt_word (show l'.val < 400 by omega)
    have t2 := toInt_word i'.isLt
    have t3 := toInt_word (col (r b' l' i') q).isLt
    rw [← e0] at t0
    rw [← e1] at t1
    rw [← e2] at t2
    rw [← e3] at t3
    constructor
    · intro h
      have f0 := t0.symm.trans (h 0)
      have f1 := t1.symm.trans (h 1)
      have f2 := t2.symm.trans (h 2)
      have f3 := t3.symm.trans (h 3)
      exact ⟨Fin.ext (Int.ofNat.inj f0), Fin.ext (Int.ofNat.inj f1), Fin.ext (Int.ofNat.inj f2), Fin.ext (Int.ofNat.inj f3)⟩
    · rintro ⟨rfl, rfl, rfl, rfl⟩ a
      fin_cases a
      · exact t0
      · exact t1
      · exact t2
      · exact t3
  have hc := Rank.exists_sortedFrom_iff (r b l i) (c := 20) (by norm_num) j
  by_cases hp : Rank.place (r b l i) j < 20
  · rw [if_pos hp]
    obtain ⟨q, hq⟩ := hc.mpr hp
    exact Routing.scatter_set_hit _ _ _ _ _ _ (fun k _ => hU k) (ix4 b l i q) ((hl b l i q).mpr ⟨rfl, rfl, rfl, hq⟩)
  · rw [if_neg hp, ← hZ (ix4 b l i j)]
    refine Routing.scatter_set_miss _ _ _ _ _ fun k hk => hp (hc.mp ?_)
    idx_vars k
    obtain ⟨rfl, rfl, rfl, hq⟩ := (hl _ _ _ _).mp hk
    exact ⟨_, hq⟩

end Cert.ReferenceIdeal.Value
-- ==== Proof.RefValue.lean ====
module

public import proofs.«01_k».proof.Proof.RefMask

@[expose] public section

/-! The reference's two results read at coordinates: they are what `Spec` says of its adjacency matrices. -/

set_option maxRecDepth 16384

noncomputable section

namespace Cert.ReferenceIdeal.Value

open Idealize.ShloMosaic Idealize.ShloMosaic.StableHlo Cert.ReferenceIdeal Cert.ReferenceIdeal.Gen

variable (L : Valuation τ sig (Elt Ideal))

/-- The reference's unit matrix at two nodes. -/
theorem unit_apply (i j : Fin 400) :
    FloatOps.uitofp (F := Ideal) .f32 (IntOp.cmpi .eq (IntOp.addi (BitVec.ofNat 32 i.val) 0#32) (BitVec.ofNat 32 j.val))
      = Spec.unit i j := by
  have h : (BitVec.ofNat 32 i.val = BitVec.ofNat 32 j.val) ↔ i = j := by
    rw [← BitVec.toNat_inj, BitVec.toNat_ofNat, BitVec.toNat_ofNat, Nat.mod_eq_of_lt (by omega),
      Nat.mod_eq_of_lt (by omega), Fin.ext_iff]
  have ha : IntOp.addi (BitVec.ofNat 32 i.val) 0#32 = BitVec.ofNat 32 i.val := BitVec.add_zero _
  have hc : IntOp.cmpi .eq (BitVec.ofNat 32 i.val) (BitVec.ofNat 32 j.val) = BitVec.ofBool (decide (i = j)) := by
    simp only [IntOp.cmpi, ← h]
    rfl
  rw [ha, hc, Spec.unit]
  by_cases e : i = j
  · simp [FloatOps.uitofp, e]
  · simp [FloatOps.uitofp, e]

/-- The index words of the selection name the columns the sort lists first. -/
theorem indices_apply (b : Fin 8) (l : Fin 12) (i : Fin 400) (q : Fin 20) :
    res_main_indices L (ix4 b l i q) = BitVec.ofNat 32 (col (graphOf L b l i) q).val := by
  refine (topK_apply (res_main_v102 L) b l i q).trans ?_
  rw [show (fun j => res_main_v102 L (ix4 b l i j)) = graphOf L b l i from funext fun j => v102_apply L b l i j]

/-- The reference's kept entries are the adjacency matrix times a mask, plus a unit matrix. -/
theorem v149_eq : ∃ (Z : FVec Ideal S8x12x400x400 .f32) (P : IVec S8x12x400x20x4 32) (U : FVec Ideal S8x12x400x20 .f32)
    (E : FVec Ideal S8x12x400x400 .f32),
    res_main_v149 L = addf (mulf (res_main_v102 L)
      (Host.scatter scatter_S8x12x400x400_S8x12x400x20x4_S8x12x400x20_n_0123_0123_4 (fun _ b => b) Z P U)) E
    ∧ (∀ i, Z i = 0) ∧ (∀ i, U i = 1) ∧ (∀ b l i j, E (ix4 b l i j) = Spec.unit i j)
    ∧ (∀ b l i q, P (ix5 b l i q 0) = BitVec.ofNat 32 b.val) ∧ (∀ b l i q, P (ix5 b l i q 1) = BitVec.ofNat 32 l.val)
    ∧ (∀ b l i q, P (ix5 b l i q 2) = BitVec.ofNat 32 i.val)
    ∧ (∀ b l i q, P (ix5 b l i q 3) = BitVec.ofNat 32 (col (graphOf L b l i) q).val) := by
  refine ⟨_, _, _, _, rfl, fun i => ?_, fun i => ?_, fun b l i j => ?_, fun b l i q => ?_, fun b l i q => ?_,
    fun b l i q => ?_, fun b l i q => ?_⟩
  · idx_vars i
    pointwise []
  · idx_vars i
    pointwise []
  · pointwise []
    exact unit_apply i j
  · pointwise [res_main_v104]
    exact wrap_word _ (by omega) _
  · pointwise [res_main_v106]
    exact wrap_word _ (by omega) _
  · pointwise [res_main_v108]
    exact wrap_word _ (by omega) _
  · pointwise []
    rw [indices_apply]
    exact wrap_word _ (Fin.isLt _) _

/-- The same with the mask named: one at the first twenty columns of a row's sort, zero elsewhere. -/
theorem v149_mask : ∃ (S E : FVec Ideal S8x12x400x400 .f32), res_main_v149 L = addf (mulf (res_main_v102 L) S) E
    ∧ (∀ b l i j, S (ix4 b l i j) = if Rank.place (graphOf L b l i) j < 20 then 1 else 0)
    ∧ (∀ b l i j, E (ix4 b l i j) = Spec.unit i j) := by
  obtain ⟨Z, P, U, E, e, hZ, hU, hE, h0, h1, h2, h3⟩ := v149_eq L
  exact ⟨_, E, e, mask_apply (graphOf L) P 0 1 Z U hZ hU h0 h1 h2 h3, hE⟩

/-- A product plus an array, at an index. -/
theorem addf_mulf_apply (x s e : FVec Ideal S8x12x400x400 .f32) (i : S8x12x400x400.Idx) (a b c : EReal)
    (ha : x i = a) (hb : s i = b) (hc : e i = c) : addf (mulf x s) e i = a * b + c := by
  subst ha hb hc
  rfl

/-- The entries kept plus the unit matrix. -/
theorem v149_apply (b : Fin 8) (l : Fin 12) (i j : Fin 400) :
    res_main_v149 L (ix4 b l i j) = Spec.kept (graphOf L b l) i j := by
  obtain ⟨S, E, e, hS, hE⟩ := v149_mask L
  rw [e]
  refine (addf_mulf_apply _ S E _ _ _ _ (v102_apply L b l i j) (hS b l i j) (hE b l i j)).trans ?_
  rw [Spec.kept]
  congr 1
  split_ifs
  · exact mul_one _
  · exact mul_zero _

/-- The second result before its division: the transpose of the first plus the unit matrix. -/
theorem v163_apply (b : Fin 8) (l : Fin 12) (i j : Fin 400) :
    res_main_v163 L (ix4 b l i j) = Spec.first (graphOf L b l) j i + Spec.unit i j := by
  pointwise [res_main_v163]
  simp only [v149_apply, unit_apply]
  rfl

/-- A division of an array by its row sums, at coordinates. -/
theorem divRows_apply (x : FVec Ideal S8x12x400x400 .f32) (b : Fin 8) (l : Fin 12) (i j : Fin 400) :
    Host.divf x (broadcastInDim S8x12x400x400 ![0, 1, 2, 3] bcast_S8x12x400x1_S8x12x400x400_0_1_2_3
      (broadcastInDim S8x12x400x1 ![0, 1, 2] bcast_S8x12x400_S8x12x400x1_0_1_2
        (Host.reduceAdd x (constant S_ .f32 0x00000000#32) reducesTo_S8x12x400x400_S8x12x400_d3 h_S_))) (ix4 b l i j)
      = Ideal.div (x (ix4 b l i j)) (∑ k, (x (ix4 b l i k) : EReal)) := by
  pointwise []

/-- The division of an array by its row sums, as the reference writes it. -/
def divRows (x : FVec Ideal S8x12x400x400 .f32) : FVec Ideal S8x12x400x400 .f32 :=
  Host.divf x (broadcastInDim S8x12x400x400 ![0, 1, 2, 3] bcast_S8x12x400x1_S8x12x400x400_0_1_2_3
    (broadcastInDim S8x12x400x1 ![0, 1, 2] bcast_S8x12x400_S8x12x400x1_0_1_2
      (Host.reduceAdd x (constant S_ .f32 0x00000000#32) reducesTo_S8x12x400x400_S8x12x400_d3 h_S_)))

/-- The reference's first result array. -/
theorem result1 : divRows (res_main_v149 L)
    = fun i : S8x12x400x400.Idx => Spec.first (graphOf L (i 0) (i 1)) (i 2) (i 3) := by
  funext i
  idx_vars i
  rw [divRows, divRows_apply]
  simp only [v149_apply]
  rfl

/-- The reference's second result array. -/
theorem result2 : divRows (res_main_v163 L)
    = fun i : S8x12x400x400.Idx => Spec.second (graphOf L (i 0) (i 1)) (i 2) (i 3) := by
  funext i
  idx_vars i
  rw [divRows, divRows_apply]
  simp only [v163_apply]
  rfl

end Cert.ReferenceIdeal.Value
-- ==== Proof.Equation.lean ====
module

public import proofs.«01_k».proof.Proof.Array
public import proofs.«01_k».proof.Proof.Host
public import proofs.«01_k».proof.Proof.RefValue

@[expose] public section

/-! The equation: the kernel's two result arrays are the reference's. -/

set_option maxRecDepth 16384

noncomputable section

namespace Cert.Equation

open Idealize.ShloMosaic Idealize.ShloMosaic.StableHlo Idealize.ShloMosaic.TcCoe Idealize.SL.Sem

variable {m : (ℓ : Loc Cert.KernelIdeal.nD Cert.KernelIdeal.τ Cert.KernelIdeal.sig) → Buf (Elt Ideal) ℓ}
  {c : Dev Cert.KernelIdeal.nD} {L : Valuation Cert.ReferenceIdeal.τ Cert.ReferenceIdeal.sig (Elt Ideal)}

/-- Equal operands give equal adjacency matrices. -/
theorem graph_congr {x x' a₁ a₁' a₂ a₂' n₁ n₁' n₂ n₂' w₁ w₁' b₁ b₁' w₂ w₂' b₂ b₂'}
    (hx : ∀ o v, x o v = x' o v) (ha₁ : ∀ v u, a₁ v u = a₁' v u) (ha₂ : ∀ v u, a₂ v u = a₂' v u)
    (hn₁ : ∀ n o, n₁ n o = n₁' n o) (hn₂ : ∀ n o, n₂ n o = n₂' n o)
    (hw₁ : ∀ o k, w₁ o k = w₁' o k) (hb₁ : ∀ o, b₁ o = b₁' o)
    (hw₂ : ∀ o k, w₂ o k = w₂' o k) (hb₂ : ∀ o, b₂ o = b₂' o) :
    Spec.graph x a₁ a₂ n₁ n₂ w₁ b₁ w₂ b₂ = Spec.graph x' a₁' a₂' n₁' n₂' w₁' b₁' w₂' b₂' := by
  obtain rfl : x = x' := funext fun o => funext (hx o)
  obtain rfl : a₁ = a₁' := funext fun v => funext (ha₁ v)
  obtain rfl : a₂ = a₂' := funext fun v => funext (ha₂ v)
  obtain rfl : n₁ = n₁' := funext fun n => funext (hn₁ n)
  obtain rfl : n₂ = n₂' := funext fun n => funext (hn₂ n)
  obtain rfl : w₁ = w₁' := funext fun o => funext (hw₁ o)
  obtain rfl : b₁ = b₁' := funext hb₁
  obtain rfl : w₂ = w₂' := funext fun o => funext (hw₂ o)
  obtain rfl : b₂ = b₂' := funext hb₂
  rfl

/-- The kernel's adjacency matrices are the reference's. -/
theorem graph (h : Host.Agree m c L) (b : Fin 8) (l : Fin 12) :
    Cert.KernelIdeal.Step.graphOf m c b l = Cert.ReferenceIdeal.Value.graphOf L b l := by
  have e8 : Cert.KernelIdeal.Gen.V m c Cert.KernelIdeal.main_arg8 = L (Proc.devRef .tc Cert.ReferenceIdeal.main_arg8) :=
    (Cert.KernelIdeal.Gen.V_main_arg8 m c).trans h.arg8.symm
  have e10 : Cert.KernelIdeal.Gen.V m c Cert.KernelIdeal.main_arg10 = L (Proc.devRef .tc Cert.ReferenceIdeal.main_arg10) :=
    (Cert.KernelIdeal.Gen.V_main_arg10 m c).trans h.arg10.symm
  exact graph_congr (fun o v => Host.feat h b l o v)
    (fun v u => congrFun (Host.a0 h) (ix2 v u)) (fun v u => congrFun (Host.a1 h) (ix2 v u))
    (fun n o => congrFun (Host.nv1 h) (ix2 n o)) (fun n o => congrFun (Host.nv2 h) (ix2 n o))
    (fun o k => congrFun e8 (ix2 o k)) (Host.bias1 h)
    (fun o k => congrFun e10 (ix2 o k)) (Host.bias2 h)

/-- The first result array. -/
theorem first (h : Host.Agree m c L) : (Cert.KernelIdeal.Gen.dats m 0 c).arrAt 9 Cert.KernelIdeal.cfg0.N
    = Cert.ReferenceIdeal.Value.divRows (Cert.ReferenceIdeal.Value.res_main_v149 L) := by
  refine (Cert.KernelIdeal.Step.array1 m c).trans (Eq.trans ?_ (Cert.ReferenceIdeal.Value.result1 L).symm)
  funext i
  exact congrArg (fun G : Spec.Mat => Spec.first G (i 2) (i 3)) (graph h (i 0) (i 1))

/-- The second result array. -/
theorem second (h : Host.Agree m c L) : (Cert.KernelIdeal.Gen.dats m 0 c).arrAt 10 Cert.KernelIdeal.cfg0.N
    = Cert.ReferenceIdeal.Value.divRows (Cert.ReferenceIdeal.Value.res_main_v163 L) := by
  refine (Cert.KernelIdeal.Step.array2 m c).trans (Eq.trans ?_ (Cert.ReferenceIdeal.Value.result2 L).symm)
  funext i
  exact congrArg (fun G : Spec.Mat => Spec.second G (i 2) (i 3)) (graph h (i 0) (i 1))

end Cert.Equation
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init
public import Idealize.ShloMosaic.Lib.Claim

@[expose] public section

noncomputable section

namespace Cert.Proof

open Idealize.ShloMosaic Idealize.ShloMosaic.StableHlo Idealize.ShloMosaic.TcCoe Idealize.SL.Sem

/-- The reference runs, keeps its arguments and, having no counter, leaves every counter at zero. -/
theorem frame_reference : Cert.quiescent_ReferenceIdeal (hReferenceIdeal := Cert.ReferenceIdeal.Gen.facts) := by
  intro m g _
  exact (θ_run Cert.ReferenceIdeal.defs _ _).mono
    (fun r k => ⟨fun c => (k c).2.2, sem_eq_zero_of_no_sems (by decide) r.2⟩) (Cert.ReferenceIdeal.Value.run m g)

/-- Equal arguments make the two memories agree in the sense the equation asks for. -/
theorem agree {m m'} {c : Dev Cert.KernelIdeal.nD}
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Host.Agree m c (launchContents (nD := Cert.ReferenceIdeal.nD) m' c) := by
  obtain ⟨h0, h1, h2, h3, h4, h5, h6, h7, h8, h9, h10, h11⟩ := h
  exact ⟨h0, h1, h2, h3, h4, h5, h6, h7, h8, h9, h10, h11⟩

/-- The kernel's results are the reference's, as extended reals. -/
theorem equal : Cert.algebraic_KernelIdeal_ReferenceIdeal (hKernelIdeal := Cert.KernelIdeal.Gen.facts)
    (hReferenceIdeal := Cert.ReferenceIdeal.Gen.facts) := by
  intro m g m' g' _ h
  refine ⟨_, _, Cert.KernelIdeal.Value.run_blocks m g,
    (θ_run Cert.ReferenceIdeal.defs _ _).mono (fun r k c => ?_) (Cert.ReferenceIdeal.Value.run m' g')⟩
  obtain ⟨k0, k1, kept⟩ := k c
  exact ⟨k0.trans (Equation.first (agree (h c))).symm, k1.trans (Equation.second (agree (h c))).symm, kept⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference,
    trivial, equal⟩

end Cert.Proof

end
